-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_routed [hPre_routed : Cert.Pre_routed.Facts] (m : (ℓ : Loc Cert.KernelIdeal.nD Cert.KernelIdeal.τ Cert.KernelIdeal.sig) → Buf (Elt Ideal) ℓ) : Prop :=
  ∀ c : Dev Cert.KernelIdeal.nD,
    (Cert.Pre_routed.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_routed [hPre_routed : Cert.Pre_routed.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_routed.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_routed [hKernelIdeal : Cert.KernelIdeal.Facts] [hPre_routed : Cert.Pre_routed.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_routed m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_routed [hReferenceIdeal : Cert.ReferenceIdeal.Facts] [hPre_routed : Cert.Pre_routed.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_routed m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal_pre_routed [hKernelIdeal : Cert.KernelIdeal.Facts] [hReferenceIdeal : Cert.ReferenceIdeal.Facts] [hPre_routed : Cert.Pre_routed.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_routed m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v9) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_routed : Cert.Pre_routed.Facts),
    quiescent_Kernel (hKernel := hKernel)
    ∧ quiescent_KernelIdeal (hKernelIdeal := hKernelIdeal)
    ∧ quiescent_KernelIdeal_pre_routed (hKernelIdeal := hKernelIdeal) (hPre_routed := hPre_routed)
    ∧ quiescent_ReferenceIdeal (hReferenceIdeal := hReferenceIdeal)
    ∧ quiescent_ReferenceIdeal_pre_routed (hReferenceIdeal := hReferenceIdeal) (hPre_routed := hPre_routed)
    ∧ preserves_Kernel_KernelIdeal
    ∧ algebraic_KernelIdeal_ReferenceIdeal_pre_routed (hKernelIdeal := hKernelIdeal) (hReferenceIdeal := hReferenceIdeal) (hPre_routed := hPre_routed)
-- ==== Pre_routed.lean ====
abbrev S64 : Shape := ⟨1, ![64]⟩
abbrev S64x1024 : Shape := ⟨2, ![64, 1024]⟩
abbrev S1024x32000 : Shape := ⟨2, ![1024, 32000]⟩
abbrev S2x32000x1024 : Shape := ⟨3, ![2, 32000, 1024]⟩
abbrev S_ : Shape := ⟨0, ![]⟩

class Facts : Prop where
  bcast_S_S64 : S_.BroadcastsInDim S64 (![] : Fin 0 → Fin S64.rank)
  reducesTo_S64_S_d0 : S64.ReducesTo [0] S_
  h_S_ : 0 < S_.numel

variable [Facts]

def fn {F : FTy → Type} [FloatOps F] (main_arg0 : IVec S64 32) (main_arg1 : FVec F S64x1024 .f32) (main_arg2 : FVec F S1024x32000 .f32) (main_arg3 : IVec S64 32) (main_arg4 : FVec F S2x32000x1024 .f32) : IVec S_ 1 :=
  let main_c : IVec S_ 32 := constantI S_ 32 0#32
  let main_v0 : IVec S64 32 := broadcastInDim S64 ![] bcast_S_S64 main_c
  let main_v1 : IVec S64 1 := cmpi .sge main_arg3 main_v0
  let main_c_0 : IVec S_ 32 := constantI S_ 32 2#32
  let main_v2 : IVec S64 32 := broadcastInDim S64 ![] bcast_S_S64 main_c_0
  let main_v3 : IVec S64 1 := cmpi .slt main_arg3 main_v2
  let main_v4 : IVec S64 1 := andi main_v1 main_v3
  let main_c_1 : IVec S_ 1 := constantI S_ 1 1#1
  let main_v5 : IVec S_ 1 := (fun x v => Host.reduce IntOp.andi x v reducesTo_S64_S_d0 h_S_) main_v4 main_c_1
  main_v5
-- ==== Kernel.lean ====
abbrev S64 : Shape := ⟨1, ![64]⟩
abbrev S64x1024 : Shape := ⟨2, ![64, 1024]⟩
abbrev S1024x32000 : Shape := ⟨2, ![1024, 32000]⟩
abbrev S2x32000x1024 : Shape := ⟨3, ![2, 32000, 1024]⟩
abbrev S64x1 : Shape := ⟨2, ![64, 1]⟩
abbrev S64x32000 : Shape := ⟨2, ![64, 32000]⟩
abbrev S64x1280 : Shape := ⟨2, ![64, 1280]⟩
abbrev S3x2x1280x1024 : Shape := ⟨4, ![3, 2, 1280, 1024]⟩
abbrev S3x2 : Shape := ⟨2, ![3, 2]⟩
abbrev S1x1 : Shape := ⟨2, ![1, 1]⟩
abbrev S_ : Shape := ⟨0, ![]⟩
abbrev S1x1x1280x1024 : Shape := ⟨4, ![1, 1, 1280, 1024]⟩
abbrev S1280x1024 : Shape := ⟨2, ![1280, 1024]⟩
abbrev S1x1280x1024 : Shape := ⟨3, ![1, 1280, 1024]⟩

abbrev nBuf : Space → Nat
  | .hbm => 7
  | .vmem => 5
  | .smem => 0
  | _ => 0

abbrev bufTy : (tb : Table) → Fin (tcTables nBuf tb) → BufTy
  | .hbm, ⟨0, _⟩ => ⟨S64, .i32⟩
  | .hbm, ⟨1, _⟩ => ⟨S64x1024, .f32⟩
  | .hbm, ⟨2, _⟩ => ⟨S1024x32000, .f32⟩
  | .hbm, ⟨3, _⟩ => ⟨S64, .i32⟩
  | .hbm, ⟨4, _⟩ => ⟨S2x32000x1024, .f32⟩
  | .hbm, ⟨5, _⟩ => ⟨S64x1, .i32⟩
  | .hbm, ⟨6, _⟩ => ⟨S64x32000, .f32⟩
  | .local _ .vmem, ⟨0, _⟩ => ⟨S64x1, .i32⟩
  | .local _ .vmem, ⟨1, _⟩ => ⟨S64x1024, .f32⟩
  | .local _ .vmem, ⟨2, _⟩ => ⟨S64x1280, .f32⟩
  | .local _ .vmem, ⟨3, _⟩ => ⟨S64x1280, .f32⟩
  | .local _ .vmem, ⟨4, _⟩ => ⟨S3x2x1280x1024, .f32⟩
  | _, _ => ⟨S64, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_scratch0 : Ref sig .tc := ⟨.vmem, 4, rfl⟩
abbrev cc0_sem0_0 : DmaSem sig := 0
abbrev cc0_sem1_0 : DmaSem sig := 1
abbrev cc0_sem2_0 : DmaSem sig := 2
abbrev cc0_sem2_1 : DmaSem sig := 3

abbrev nD : Nat := 1
abbrev τ : Topo := Topo.v7x

variable {F : FTy → Type} [FloatOps F]

abbrev grid0 : Pipeline.Grid := ⟨1, ![25], ![false]⟩

def k0_off1 (i : grid0.Coords) : Fin 2 → Nat :=
  let arg0 : BitVec 32 := BitVec.ofNat 32 (i 0).val
  let c3_i32 : BitVec 32 := 3#32
  let v3 : BitVec 32 := Scalar.remsi arg0 c3_i32
  let c0_i32_3 : BitVec 32 := 0#32
  ![v3.toNat, 0]
def k0_off2 (i : grid0.Coords) : Fin 4 → Nat :=
  let arg0 : BitVec 32 := BitVec.ofNat 32 (i 0).val
  let c3_i32 : BitVec 32 := 3#32
  let v3 : BitVec 32 := Scalar.remsi arg0 c3_i32
  let c0_i32_2 : BitVec 32 := 0#32
  let c0_i32_4 : BitVec 32 := 0#32
  let c0_i32_5 : BitVec 32 := 0#32
  ![v3.toNat, 0, 0, 0]
def k0_off3 (i : grid0.Coords) : Fin 3 → Nat :=
  let c0_i32_1 : BitVec 32 := 0#32
  let arg0 : BitVec 32 := BitVec.ofNat 32 (i 0).val
  let c1280_i32 : BitVec 32 := 1280#32
  let v4 : BitVec 32 := Scalar.muli arg0 c1280_i32
  let c0_i32_6 : BitVec 32 := 0#32
  ![0, v4.toNat, 0]
def k0_off4 (i : grid0.Coords) : Fin 2 → Nat :=
  let arg0 : BitVec 32 := BitVec.ofNat 32 (i 0).val
  let c3_i32 : BitVec 32 := 3#32
  let v3 : BitVec 32 := Scalar.remsi arg0 c3_i32
  let c1_i32_9 : BitVec 32 := 1#32
  ![v3.toNat, 1]
def k0_off5 (i : grid0.Coords) : Fin 4 → Nat :=
  let arg0 : BitVec 32 := BitVec.ofNat 32 (i 0).val
  let c3_i32 : BitVec 32 := 3#32
  let v3 : BitVec 32 := Scalar.remsi arg0 c3_i32
  let c1_i32_8 : BitVec 32 := 1#32
  let c0_i32_10 : BitVec 32 := 0#32
  let c0_i32_11 : BitVec 32 := 0#32
  ![v3.toNat, 1, 0, 0]
def k0_off6 (i : grid0.Coords) : Fin 3 → Nat :=
  let c1_i32 : BitVec 32 := 1#32
  let arg0 : BitVec 32 := BitVec.ofNat 32 (i 0).val
  let c1280_i32_7 : BitVec 32 := 1280#32
  let v11 : BitVec 32 := Scalar.muli arg0 c1280_i32_7
  let c0_i32_12 : BitVec 32 := 0#32
  ![1, v11.toNat, 0]
def k0_off7 (i : grid0.Coords) : Fin 4 → Nat :=
  let arg0 : BitVec 32 := BitVec.ofNat 32 (i 0).val
  let c3_i32 : BitVec 32 := 3#32
  let v3 : BitVec 32 := Scalar.remsi arg0 c3_i32
  let v27 : Index := Scalar.indexCast v3
  let c0_17 : Index := 0#32
  let c0_18 : Index := 0#32
  let c0_19 : Index := 0#32
  ![v27.toNat, 0, 0, 0]
def k0_off8 (i : grid0.Coords) : Fin 4 → Nat :=
  let arg0 : BitVec 32 := BitVec.ofNat 32 (i 0).val
  let c3_i32 : BitVec 32 := 3#32
  let v3 : BitVec 32 := Scalar.remsi arg0 c3_i32
  let v37 : Index := Scalar.indexCast v3
  let c1 : Index := 1#32
  let c0_21 : Index := 0#32
  let c0_22 : Index := 0#32
  ![v37.toNat, 1, 0, 0]
def k0_cond2 (i : grid0.Coords) : BitVec 1 :=
  let arg0 : BitVec 32 := BitVec.ofNat 32 (i 0).val
  let c3_i32_26 : BitVec 32 := 3#32
  let v43 : BitVec 32 := Scalar.addi arg0 c3_i32_26
  let c25_i32 : BitVec 32 := 25#32
  let v44 : BitVec 1 := Scalar.cmpi .slt v43 c25_i32
  let v45 : BitVec 32 := Scalar.extui v44
  let c0_i32_27 : BitVec 32 := 0#32
  let v46 : BitVec 1 := Scalar.cmpi .ne v45 c0_i32_27
  v46

def k0_off9 (i : grid0.Coords) : Fin 2 → Nat :=
  let arg0 : BitVec 32 := BitVec.ofNat 32 (i 0).val
  let c3_i32 : BitVec 32 := 3#32
  let v3 : BitVec 32 := Scalar.remsi arg0 c3_i32
  let c0_i32_31 : BitVec 32 := 0#32
  ![v3.toNat, 0]
def k0_off10 (i : grid0.Coords) : Fin 4 → Nat :=
  let arg0 : BitVec 32 := BitVec.ofNat 32 (i 0).val
  let c3_i32 : BitVec 32 := 3#32
  let v3 : BitVec 32 := Scalar.remsi arg0 c3_i32
  let c0_i32_30 : BitVec 32 := 0#32
  let c0_i32_32 : BitVec 32 := 0#32
  let c0_i32_33 : BitVec 32 := 0#32
  ![v3.toNat, 0, 0, 0]
def k0_off11 (i : grid0.Coords) : Fin 3 → Nat :=
  let c0_i32_29 : BitVec 32 := 0#32
  let arg0 : BitVec 32 := BitVec.ofNat 32 (i 0).val
  let c3_i32_26 : BitVec 32 := 3#32
  let v43 : BitVec 32 := Scalar.addi arg0 c3_i32_26
  let c1280_i32_28 : BitVec 32 := 1280#32
  let v47 : BitVec 32 := Scalar.muli v43 c1280_i32_28
  let c0_i32_34 : BitVec 32 := 0#32
  ![0, v47.toNat, 0]
def k0_off12 (i : grid0.Coords) : Fin 2 → Nat :=
  let arg0 : BitVec 32 := BitVec.ofNat 32 (i 0).val
  let c3_i32 : BitVec 32 := 3#32
  let v3 : BitVec 32 := Scalar.remsi arg0 c3_i32
  let c1_i32_38 : BitVec 32 := 1#32
  ![v3.toNat, 1]
def k0_off13 (i : grid0.Coords) : Fin 4 → Nat :=
  let arg0 : BitVec 32 := BitVec.ofNat 32 (i 0).val
  let c3_i32 : BitVec 32 := 3#32
  let v3 : BitVec 32 := Scalar.remsi arg0 c3_i32
  let c1_i32_37 : BitVec 32 := 1#32
  let c0_i32_39 : BitVec 32 := 0#32
  let c0_i32_40 : BitVec 32 := 0#32
  ![v3.toNat, 1, 0, 0]
def k0_off14 (i : grid0.Coords) : Fin 3 → Nat :=
  let c1_i32_36 : BitVec 32 := 1#32
  let arg0 : BitVec 32 := BitVec.ofNat 32 (i 0).val
  let c3_i32_26 : BitVec 32 := 3#32
  let v43 : BitVec 32 := Scalar.addi arg0 c3_i32_26
  let c1280_i32_35 : BitVec 32 := 1280#32
  let v54 : BitVec 32 := Scalar.muli v43 c1280_i32_35
  let c0_i32_41 : BitVec 32 := 0#32
  ![1, v54.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S64x1 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S64x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S64x1280 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== ReferenceIdeal.lean ====
abbrev S64 : Shape := ⟨1, ![64]⟩
abbrev S64x1024 : Shape := ⟨2, ![64, 1024]⟩
abbrev S1024x32000 : Shape := ⟨2, ![1024, 32000]⟩
abbrev S2x32000x1024 : Shape := ⟨3, ![2, 32000, 1024]⟩
abbrev S64x2x32000 : Shape := ⟨3, ![64, 2, 32000]⟩
abbrev S64x32000 : Shape := ⟨2, ![64, 32000]⟩
abbrev S_ : Shape := ⟨0, ![]⟩
abbrev S64x1x1 : Shape := ⟨3, ![64, 1, 1]⟩
abbrev S1 : Shape := ⟨1, ![1]⟩
abbrev S1x1x1 : Shape := ⟨3, ![1, 1, 1]⟩
abbrev S64x1 : Shape := ⟨2, ![64, 1]⟩
abbrev S64x1x32000 : Shape := ⟨3, ![64, 1, 32000]⟩

abbrev nBuf : Space → Nat
  | .hbm => 41
  | .vmem => 0
  | .smem => 0
  | _ => 0

abbrev bufTy : (tb : Table) → Fin (tcTables nBuf tb) → BufTy
  | .hbm, ⟨0, _⟩ => ⟨S64, .i32⟩
  | .hbm, ⟨1, _⟩ => ⟨S64x1024, .f32⟩
  | .hbm, ⟨2, _⟩ => ⟨S1024x32000, .f32⟩
  | .hbm, ⟨3, _⟩ => ⟨S64, .i32⟩
  | .hbm, ⟨4, _⟩ => ⟨S2x32000x1024, .f32⟩
  | .hbm, ⟨5, _⟩ => ⟨S64x2x32000, .f32⟩
  | .hbm, ⟨6, _⟩ => ⟨S64x32000, .f32⟩
  | .hbm, ⟨7, _⟩ => ⟨S_, .i32⟩
  | .hbm, ⟨8, _⟩ => ⟨S_, .i32⟩
  | .hbm, ⟨9, _⟩ => ⟨S64, .i32⟩
  | .hbm, ⟨10, _⟩ => ⟨S64, .i32⟩
  | .hbm, ⟨11, _⟩ => ⟨S64x1x1, .i32⟩
  | .hbm, ⟨12, _⟩ => ⟨S_, .i32⟩
  | .hbm, ⟨13, _⟩ => ⟨S64x1x1, .i32⟩
  | .hbm, ⟨14, _⟩ => ⟨S64x1x1, .i1⟩
  | .hbm, ⟨15, _⟩ => ⟨S_, .i32⟩
  | .hbm, ⟨16, _⟩ => ⟨S64x1x1, .i32⟩
  | .hbm, ⟨17, _⟩ => ⟨S64x1x1, .i32⟩
  | .hbm, ⟨18, _⟩ => ⟨S64x1x1, .i32⟩
  | .hbm, ⟨19, _⟩ => ⟨S1, .i32⟩
  | .hbm, ⟨20, _⟩ => ⟨S_, .i32⟩
  | .hbm, ⟨21, _⟩ => ⟨S64x1x1, .i32⟩
  | .hbm, ⟨22, _⟩ => ⟨S64x1x1, .i1⟩
  | .hbm, ⟨23, _⟩ => ⟨S1x1x1, .i32⟩
  | .hbm, ⟨24, _⟩ => ⟨S64x1x1, .i32⟩
  | .hbm, ⟨25, _⟩ => ⟨S64x1x1, .i1⟩
  | .hbm, ⟨26, _⟩ => ⟨S64x1x1, .i1⟩
  | .hbm, ⟨27, _⟩ => ⟨S_, .i1⟩
  | .hbm, ⟨28, _⟩ => ⟨S64x1, .i1⟩
  | .hbm, ⟨29, _⟩ => ⟨S64x1x32000, .f32⟩
  | .hbm, ⟨30, _⟩ => ⟨S64x1x32000, .i1⟩
  | .hbm, ⟨31, _⟩ => ⟨S_, .f32⟩
  | .hbm, ⟨32, _⟩ => ⟨S64x1x32000, .f32⟩
  | .hbm, ⟨33, _⟩ => ⟨S64x1x32000, .f32⟩
  | .hbm, ⟨34, _⟩ => ⟨S64x32000, .f32⟩
  | .hbm, ⟨35, _⟩ => ⟨S_, .i32⟩
  | .hbm, ⟨36, _⟩ => ⟨S64, .i32⟩
  | .hbm, ⟨37, _⟩ => ⟨S64, .i1⟩
  | .hbm, ⟨38, _⟩ => ⟨S64x1, .i1⟩
  | .hbm, ⟨39, _⟩ => ⟨S64x32000, .i1⟩
  | .hbm, ⟨40, _⟩ => ⟨S64x32000, .f32⟩
  | _, _ => ⟨S64, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_c : Ref sig .tc := ⟨.hbm, 7, rfl⟩
abbrev main_call0_v0 : Ref sig .tc := ⟨.hbm, 8, rfl⟩
abbrev main_call0_v1 : Ref sig .tc := ⟨.hbm, 9, rfl⟩
abbrev main_v2 : Ref sig .tc := ⟨.hbm, 10, rfl⟩
abbrev main_v3 : Ref sig .tc := ⟨.hbm, 11, rfl⟩
abbrev main_call1_c : Ref sig .tc := ⟨.hbm, 12, rfl⟩
abbrev main_call1_v0 : Ref sig .tc := ⟨.hbm, 13, rfl⟩
abbrev main_call1_v1 : Ref sig .tc := ⟨.hbm, 14, rfl⟩
abbrev main_call1_c_0 : Ref sig .tc := ⟨.hbm, 15, rfl⟩
abbrev main_call1_v2 : Ref sig .tc := ⟨.hbm, 16, rfl⟩
abbrev main_call1_v3 : Ref sig .tc := ⟨.hbm, 17, rfl⟩
abbrev main_call1_v4 : Ref sig .tc := ⟨.hbm, 18, rfl⟩
abbrev main_call1_c_1 : Ref sig .tc := ⟨.hbm, 19, rfl⟩
abbrev main_call1_c_2 : Ref sig .tc := ⟨.hbm, 20, rfl⟩
abbrev main_call1_v5 : Ref sig .tc := ⟨.hbm, 21, rfl⟩
abbrev main_call1_v6 : Ref sig .tc := ⟨.hbm, 22, rfl⟩
abbrev main_call1_v7 : Ref sig .tc := ⟨.hbm, 23, rfl⟩
abbrev main_call1_v8 : Ref sig .tc := ⟨.hbm, 24, rfl⟩
abbrev main_call1_v9 : Ref sig .tc := ⟨.hbm, 25, rfl⟩
abbrev main_call1_v10 : Ref sig .tc := ⟨.hbm, 26, rfl⟩
abbrev main_call1_c_3 : Ref sig .tc := ⟨.hbm, 27, rfl⟩
abbrev main_call1_v11 : Ref sig .tc := ⟨.hbm, 28, rfl⟩
abbrev main_call1_v12 : Ref sig .tc := ⟨.hbm, 29, rfl⟩
abbrev main_call1_v13 : Ref sig .tc := ⟨.hbm, 30, rfl⟩
abbrev main_call1_cst : Ref sig .tc := ⟨.hbm, 31, rfl⟩
abbrev main_call1_v14 : Ref sig .tc := ⟨.hbm, 32, rfl⟩
abbrev main_v4 : Ref sig .tc := ⟨.hbm, 33, rfl⟩
abbrev main_v5 : Ref sig .tc := ⟨.hbm, 34, rfl⟩
abbrev main_c_0 : Ref sig .tc := ⟨.hbm, 35, rfl⟩
abbrev main_v6 : Ref sig .tc := ⟨.hbm, 36, rfl⟩
abbrev main_v7 : Ref sig .tc := ⟨.hbm, 37, rfl⟩
abbrev main_v8 : Ref sig .tc := ⟨.hbm, 38, rfl⟩
abbrev main_call2_v0 : Ref sig .tc := ⟨.hbm, 39, rfl⟩
abbrev main_v9 : Ref sig .tc := ⟨.hbm, 40, rfl⟩

abbrev nD : Nat := 1
abbrev τ : Topo := Topo.v7x

variable {F : FTy → Type} [FloatOps F]
-- ==== Proof.Logits.lean ====
/- The function both programs compute when every token's index is 0 or 1, and what the precondition says of the indices. -/
module

public import proofs.«01_k».proof.Pre_routed
public import proofs.«01_k».proof.Proof.Gen.Pre_routed
public import Idealize.ShloMosaic.Lib.ReduceAll
public import Idealize.ShloMosaic.Lib.ValueIdxCore
public import Idealize.ShloMosaic.PureOps.Ideal.Laws

@[expose] public section

noncomputable section

namespace Cert.Routed

open Idealize.ShloMosaic Idealize.ShloMosaic.ValueIdx
open scoped BigOperators

/-- The hidden states, the weight indices, the two weight matrices, the logits. -/
abbrev Hidden := FVec Ideal ⟨2, ![64, 1024]⟩ .f32
abbrev Indices := IVec ⟨1, ![64]⟩ 32
abbrev Weights := FVec Ideal ⟨3, ![2, 32000, 1024]⟩ .f32
abbrev Logits := FVec Ideal ⟨2, ![64, 32000]⟩ .f32

/-- Every token is routed to weight matrix 0 or 1. -/
def InRange (X : Indices) : Prop := ∀ b : Fin 64, X (ix1 b) = 0#32 ∨ X (ix1 b) = 1#32

/-- The matrix token `b` is routed to. -/
def slot (X : Indices) (b : Fin 64) : Fin 2 := if X (ix1 b) = 1#32 then 1 else 0

/-- Token `b`'s logit for vocabulary entry `v`: its hidden state times row `v` of its matrix. -/
def logit (h : Hidden) (X : Indices) (D : Weights) (b : Fin 64) (v : Fin 32000) : EReal :=
  ∑ k : Fin 1024, h (ix2 b k) * D (ix3 (slot X b) v k)

/-- The logits of every token. -/
def logits (h : Hidden) (X : Indices) (D : Weights) : Logits := fun i => logit h X D (i 0) (i 1)

theorem word_zero_or_one {x : BitVec 32} (h0 : (0#32).sle x = true) (h2 : x.slt 2#32 = true) : x = 0#32 ∨ x = 1#32 := by
  rw [BitVec.sle_iff_toInt_le] at h0
  rw [BitVec.slt_iff_toInt_lt] at h2
  have e0 : (0#32).toInt = 0 := by decide
  have e1 : (1#32).toInt = 1 := by decide
  have e2 : (2#32).toInt = 2 := by decide
  rw [e0] at h0; rw [e2] at h2
  rcases (by omega : x.toInt = 0 ∨ x.toInt = 1) with e | e
  · exact Or.inl (BitVec.eq_of_toInt_eq (by rw [e, e0]))
  · exact Or.inr (BitVec.eq_of_toInt_eq (by rw [e, e1]))

/-- The precondition, read back. -/
theorem inRange {t : IVec ⟨1, ![64]⟩ 32} {h : Hidden} {W : FVec Ideal ⟨2, ![1024, 32000]⟩ .f32} {X : Indices} {D : Weights}
    (hp : Cert.Pre_routed.fn (F := Ideal) t h W X D = fun _ => 1#1) : InRange X := by
  intro b
  have : Subsingleton Cert.Pre_routed.S_.Idx := ⟨fun _ _ => funext fun a => a.elim0⟩
  have e := Host.reduce_andi_all _ _ _ _ (fun a => a.elim0) (congrFun hp (fun a => a.elim0)) (ix1 b)
  obtain ⟨h0, h2⟩ := IntOp.andi_eq_one.1 e
  have h0 : BitVec.ofBool ((0#32).sle (X (ix1 b))) = 1#1 := h0
  have h2 : BitVec.ofBool ((X (ix1 b)).slt 2#32) = 1#1 := h2
  refine word_zero_or_one ?_ ?_
  · cases hb : (0#32).sle (X (ix1 b))
    · rw [hb] at h0; exact absurd h0 (by decide)
    · rfl
  · cases hb : (X (ix1 b)).slt 2#32
    · rw [hb] at h2; exact absurd h2 (by decide)
    · rfl

theorem slot_zero {X : Indices} {b : Fin 64} (h : X (ix1 b) = 0#32) : slot X b = 0 := by
  unfold slot; rw [h]; exact if_neg (by decide)
theorem slot_one {X : Indices} {b : Fin 64} (h : X (ix1 b) = 1#32) : slot X b = 1 := by
  unfold slot; rw [h]; exact if_pos rfl

end Cert.Routed

end
-- ==== Proof.Ring.lean ====
/- The ring of tiles the kernel streams the delta weights through, as separation-logic resources.

   The kernel leaves the delta weights (2 experts of 32000 rows of 1024) in HBM and copies them itself, 1280 rows of
   one expert per transfer, into a scratch of three slots of two tiles (one tile per expert), each tile's transfer
   announced on a cell of its own. Point `t` waits for the two tiles of block `t` in slot `t mod 3`, computes with
   them, and then starts block `t + 3` into the slot it has just read: three blocks are under way through three slots,
   no slot is spare. Before point `k ≥ 1` the slots hold blocks `k`, `k + 1`, `k + 2` in flight, as far as they exist. -/
module

public import proofs.«01_k».proof.Proof.Gen.KernelIdeal.Frame
public import proofs.«01_k».proof.Proof.Gen.KernelIdeal.Skeleton

@[expose] public section

set_option maxRecDepth 16384

noncomputable section

namespace Cert.KernelIdeal.Stream

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ)

/-! ## The names: scratch, operand, tiles, blocks, cells -/

/-- The scratch of tiles, whole. -/
abbrev scratch : Memref sig .tc .vmem S3x2x1280x1024 .f32 := Memref.whole cc0_scratch0
/-- The delta weights in HBM, whole. -/
abbrev weights : Memref sig .tc .hbm S2x32000x1024 .f32 := Memref.whole main_arg4
/-- The contents of memref `M`'s buffer on core `c`. -/
abbrev Cont (c : Dev nD) {sp : Space} {S : Shape} {e : EltTy} (M : Memref sig .tc sp S e) : Type := Buf (Elt F) (M.view.loc (c : Thread nD τ))

instance : NeZero grid0.N := ⟨by rw [N_0]; decide⟩

theorem inb_tile (s : Fin 3) (w : Fin 2) : ∀ a, (![s.val, w.val, 0, 0] : Fin 4 → Nat) a + S1x1x1280x1024.size a ≤ S3x2x1280x1024.size a := by
  have := s.isLt; have := w.isLt; intro a; fin_cases a <;> simp <;> omega
theorem inb_block (w : Fin 2) (b : Fin 25) : ∀ a, (![w.val, 1280 * b.val, 0] : Fin 3 → Nat) a + S1x1280x1024.size a ≤ S2x32000x1024.size a := by
  have := w.isLt; have := b.isLt; intro a; fin_cases a <;> simp <;> omega
theorem inb_cell (s : Fin 3) (w : Fin 2) : ∀ a, (![s.val, w.val] : Fin 2 → Nat) a + S1x1.size a ≤ S3x2.size a := by
  have := s.isLt; have := w.isLt; intro a; fin_cases a <;> simp <;> omega

/-- Expert `w`'s tile of slot `s`, as the kernel's transfers name their destination. -/
def tile (s : Fin 3) (w : Fin 2) : Memref sig .tc .vmem S1280x1024 .f32 :=
  (scratch.slice (Rect.unit (s := S3x2x1280x1024) ![s.val, w.val, 0, 0] S1x1x1280x1024.size (inb_tile s w)) (fun _ => rfl)).squeeze S1280x1024 squeezes_S1x1x1280x1024_S1280x1024
/-- Expert `w`'s rows `1280 b … 1280 b + 1279`, as the kernel's transfers name their source. -/
def block (w : Fin 2) (b : Fin 25) : Memref sig .tc .hbm S1280x1024 .f32 :=
  (weights.slice (Rect.unit (s := S2x32000x1024) ![w.val, 1280 * b.val, 0] S1x1280x1024.size (inb_block w b)) (fun _ => rfl)).squeeze S1280x1024 squeezes_S1x1280x1024_S1280x1024
/-- The cell of that tile, as the kernel names it, and as a semaphore of the machine. -/
def cellA (s : Fin 3) (w : Fin 2) : DmaSems sig S_ :=
  (cc0_scratch1.slice (Rect.unit (s := S3x2) ![s.val, w.val] S1x1.size (inb_cell s w))).squeeze S_ squeezes_S1x1_S_
abbrev cellR (s : Fin 3) (w : Fin 2) : SemLoc sig := SemLoc.dma (cellA s w).sem

/-- The six cells, by their place in the machine. -/
abbrev cells : Fin 6 → SemLoc sig := fun j => (![SemLoc.dma 4, SemLoc.dma 5, SemLoc.dma 6, SemLoc.dma 7, SemLoc.dma 8, SemLoc.dma 9] : Fin 6 → SemLoc sig) j
theorem cells_own : Pipeline.OwnSemFacts spec0 cells := by decide
theorem cellR_00 : cellR 0 0 = SemLoc.dma 4 := by decide
theorem cellR_01 : cellR 0 1 = SemLoc.dma 5 := by decide
theorem cellR_10 : cellR 1 0 = SemLoc.dma 6 := by decide
theorem cellR_11 : cellR 1 1 = SemLoc.dma 7 := by decide
theorem cellR_20 : cellR 2 0 = SemLoc.dma 8 := by decide
theorem cellR_21 : cellR 2 1 = SemLoc.dma 9 := by decide

/-! ## The pieces -/

section Pieces
variable (c : Dev nD) (W : Cont (F := F) c weights)

/-- The share of the weights each tile's transfers borrow from: one sixth per tile, by halving. -/
abbrev qs (s : Fin 3) : PosShare TreeShare := if s.val = 0 then fullShare.left else if s.val = 1 then fullShare.right.left else fullShare.right.right
abbrev q (s : Fin 3) (w : Fin 2) : PosShare TreeShare := if w.val = 0 then (qs s).left else (qs s).right

/-- A tile of the scratch held at `f`; its cell at zero. -/
abbrev tileP (s : Fin 3) (w : Fin 2) (f : Cont (F := F) c (tile s w)) : sProp 𝕄 := (tile s w).view.loc (c : Thread nD τ) ↦[(tile s w).view.set]{fullShare} f
abbrev cellP (s : Fin 3) (w : Fin 2) : sProp 𝕄 := semVal ((c : Thread nD τ), cellR s w) 0
/-- Tile `(s, w)`'s share of the weights: block `b`'s elements, the share without block `b`, without two blocks, whole. -/
abbrev srcP (s : Fin 3) (w : Fin 2) (b : Fin 25) : sProp 𝕄 := (block w b).view.loc (c : Thread nD τ) ↦[(block w b).view.set]{q s w} W
def restP (s : Fin 3) (w : Fin 2) (b : Fin 25) : sProp 𝕄 := ((c : Thread nD τ).loc main_arg4) ↦[Finset.univ \ (block w b).view.set]{q s w} W
def rest2P (s : Fin 3) (w : Fin 2) (b b' : Fin 25) : sProp 𝕄 := ((c : Thread nD τ).loc main_arg4) ↦[(Finset.univ \ (block w b).view.set) \ (block w b').view.set]{q s w} W
abbrev wholeP (s : Fin 3) (w : Fin 2) : sProp 𝕄 := ((c : Thread nD τ).loc main_arg4) ↦[Finset.univ]{q s w} W
/-- What tile `(s, w)` holds once block `b` has landed in it over `f`. -/
abbrev landed (s : Fin 3) (w : Fin 2) (b : Fin 25) (f : Cont (F := F) c (tile s w)) : Cont (F := F) c (tile s w) :=
  (tile s w).view.writes (Elt F) f [⟨Rect.whole S1280x1024, ReadAs.same.apply ((block w b).view.read (Elt F) W)⟩]
/-- Block `b` on its way into tile `(s, w)`: its cell will deliver the tile landed and the lent elements back. -/
abbrev flightP (s : Fin 3) (w : Fin 2) (b : Fin 25) (f : Cont (F := F) c (tile s w)) : sProp 𝕄 :=
  Transfers.Flight countersEmb (c : Thread nD τ) (cellR s w) default ((tile s w).view.amount (cellR s w))
    iprop(tileP c s w (landed c W s w b f) ∗ srcP c W s w b)

/-- A tile with nothing in flight into it: its cell at zero, the tile at anything, its share of the weights whole; -/
def freeT (s : Fin 3) (w : Fin 2) : sProp 𝕄 := iprop(cellP c s w ∗ (∃ f, tileP c s w f) ∗ wholeP c W s w)
/-- and a tile with block `b` in flight into it. -/
def busyT (s : Fin 3) (w : Fin 2) (b : Fin 25) : sProp 𝕄 := iprop((∃ f, flightP c W s w b f) ∗ restP c W s w b)
/-- A slot is its two tiles. -/
def free (s : Fin 3) : sProp 𝕄 := iprop(freeT c W s 0 ∗ freeT c W s 1)
def busy (s : Fin 3) (b : Fin 25) : sProp 𝕄 := iprop(busyT c W s 0 b ∗ busyT c W s 1 b)

/-- The slot block `k` goes through, `k` not before the current point: busy with it, or free if there is no block `k`. -/
def role (k : ℕ) : sProp 𝕄 := if k < 25 then busy c W (Ring.sl 3 k) (Ring.bk 25 k) else free c W (Ring.sl 3 k)
/-- The ring before point `k`. -/
def ring (k : ℕ) : sProp 𝕄 :=
  if k = 0 then iprop(free c W (Ring.sl 3 0) ∗ free c W (Ring.sl 3 1) ∗ free c W (Ring.sl 3 2))
  else iprop(role c W k ∗ role c W (k + 1) ∗ role c W (k + 2))

theorem role_busy {k : ℕ} (h : k < 25) : role c W k = busy c W (Ring.sl 3 k) (Ring.bk 25 k) := if_pos h
theorem role_free {k : ℕ} (h : 25 ≤ k) : role c W k = free c W (Ring.sl 3 k) := if_neg (by omega)
/-- Block `k + 3` goes through block `k`'s slot. -/
theorem role_again {k : ℕ} (h : k + 3 < 25) : role c W (k + 3) = busy c W (Ring.sl 3 k) (Ring.bk 25 (k + 3)) := by
  rw [role_busy c W h, Ring.sl_add]
theorem role_done {k : ℕ} (h : 25 ≤ k + 3) : role c W (k + 3) = free c W (Ring.sl 3 k) := by
  rw [role_free c W h, Ring.sl_add]
theorem ring_pos {k : ℕ} (h : 1 ≤ k) : ring c W k = iprop(role c W k ∗ role c W (k + 1) ∗ role c W (k + 2)) := if_neg (by omega)
theorem ring_succ (k : ℕ) : ring c W (k + 1) = iprop(role c W (k + 1) ∗ role c W (k + 2) ∗ role c W (k + 3)) := if_neg (by omega)

/-! ## Borrowing a block from a tile's share -/

abbrev blockSet (w : Fin 2) (b : Fin 25) : Finset S2x32000x1024.Idx := (Rect.unit (s := S2x32000x1024) ![w.val, 1280 * b.val, 0] S1x1280x1024.size (inb_block w b)).set
theorem block_set (w : Fin 2) (b : Fin 25) : (block w b).view.set = blockSet w b := by
  simp only [block, Memref.view_squeeze, View.set_reshape]; exact View.set_slice_whole _ _
/-- Two blocks of one expert share no row. -/
theorem blocks_disjoint (w : Fin 2) {b b' : Fin 25} (h : b ≠ b') : Disjoint (block w b).view.set (block w b').view.set := by
  rw [block_set, block_set]
  exact Ring.lead_disjoint (s := S2x32000x1024) (1 : Fin 3) 1280 (fun b : Fin 25 => (![w.val, 1280 * b.val, 0] : Fin 3 → Nat)) S1x1280x1024.size (inb_block w) (fun b => by simp) rfl b b' h
theorem src_split (s : Fin 3) (w : Fin 2) (b : Fin 25) : wholeP (F := F) c W s w ⊣⊢ iprop(srcP c W s w b ∗ restP c W s w b) := by
  unfold restP; exact pointsTo_split_subset (Finset.subset_univ _)
/-- The share without block `b` still has every other block. -/
theorem rest_split (s : Fin 3) (w : Fin 2) {b b' : Fin 25} (h : b ≠ b') : restP (F := F) c W s w b ⊣⊢ iprop(srcP c W s w b' ∗ rest2P c W s w b b') := by
  unfold restP rest2P
  exact pointsTo_split_subset (Finset.subset_sdiff.mpr ⟨Finset.subset_univ _, (blocks_disjoint w h).symm⟩)
theorem rest2_comm (s : Fin 3) (w : Fin 2) (b b' : Fin 25) : rest2P (F := F) c W s w b b' = rest2P c W s w b' b := by
  exact congrArg (fun I : Finset S2x32000x1024.Idx => (((c : Thread nD τ).loc main_arg4) ↦[I]{q s w} W : sProp 𝕄))
    (sdiff_right_comm (Finset.univ : Finset S2x32000x1024.Idx) (block w b).view.set (block w b').view.set)
/-- Block `b` returned while block `b'` is lent. -/
theorem rest_swap (s : Fin 3) (w : Fin 2) {b b' : Fin 25} (h : b ≠ b') : iprop(srcP c W s w b ∗ rest2P c W s w b b') ⊢ restP (F := F) c W s w b' := by
  rw [rest2_comm]; exact (rest_split c W s w h.symm).2

/-! ## The scratch is its six tiles; the weights are their six shares -/

abbrev tileSet (j : Fin 3 × Fin 2) : Finset S3x2x1280x1024.Idx := (Rect.unit (s := S3x2x1280x1024) ![j.1.val, j.2.val, 0, 0] S1x1x1280x1024.size (inb_tile j.1 j.2)).set
theorem tile_set (s : Fin 3) (w : Fin 2) : (tile s w).view.set = tileSet (s, w) := by
  simp only [tile, Memref.view_squeeze, View.set_reshape]; exact View.set_slice_whole _ _
theorem tiles_disjoint (j j' : Fin 3 × Fin 2) (h : j ≠ j') : Disjoint (tileSet j) (tileSet j') := by
  rw [Finset.disjoint_left]
  intro i hi hi'
  have h1 := Rect.mem_set_unit.mp hi
  have h2 := Rect.mem_set_unit.mp hi'
  have a0 := h1 0; have a1 := h1 1; have b0 := h2 0; have b1 := h2 1
  simp at a0 a1 b0 b1
  exact h (Prod.ext (Fin.ext (by omega)) (Fin.ext (by omega)))
theorem tiles_cover : Finset.univ.biUnion tileSet = Finset.univ := by
  ext i
  simp only [Finset.mem_biUnion, Finset.mem_univ, true_and, iff_true]
  refine ⟨((i 0).cast rfl, (i 1).cast rfl), Rect.mem_set_unit.mpr fun a => ?_⟩
  have h2 := (i 2).isLt
  have h3 := (i 3).isLt
  fin_cases a
  · exact ⟨le_rfl, Nat.lt_succ_self _⟩
  · exact ⟨le_rfl, Nat.lt_succ_self _⟩
  · exact ⟨Nat.zero_le _, by simpa using h2⟩
  · exact ⟨Nat.zero_le _, by simpa using h3⟩
theorem tileP_eq (s : Fin 3) (w : Fin 2) (f) : tileP (F := F) c s w f = (((c : Thread nD τ).loc cc0_scratch0) ↦[tileSet (s, w)]{fullShare} f : sProp 𝕄) := by
  unfold tileP; rw [tile_set]; rfl

theorem of_eq {P Q : sProp 𝕄} (e : P = Q) : P ⊢ Q := e ▸ .rfl

/-- The listing of the six tiles. -/
theorem six (P : Fin 3 × Fin 2 → sProp 𝕄) :
    (bigSep Finset.univ P : sProp 𝕄) = iprop(P (0, 0) ∗ P (0, 1) ∗ P (1, 0) ∗ P (1, 1) ∗ P (2, 0) ∗ P (2, 1)) := by
  rw [BI.bigSep_eq_bigSepL_of_eq [(0, 0), (0, 1), (1, 0), (1, 1), (2, 0), (2, 1)] (by decide) (by decide)]; rfl

/-- The six tiles, each held at something. -/
def tiles : sProp 𝕄 :=
  iprop((∃ f, tileP (F := F) c 0 0 f) ∗ (∃ f, tileP (F := F) c 0 1 f) ∗ (∃ f, tileP (F := F) c 1 0 f) ∗ (∃ f, tileP (F := F) c 1 1 f) ∗ (∃ f, tileP (F := F) c 2 0 f) ∗ (∃ f, tileP (F := F) c 2 1 f))
theorem tiles_eq : tiles (F := F) c = bigSep Finset.univ (fun j : Fin 3 × Fin 2 => (iprop(∃ f, ((c : Thread nD τ).loc cc0_scratch0) ↦[tileSet j]{fullShare} f) : sProp 𝕄)) := by
  rw [six]; unfold tiles; simp only [tileP_eq]; rfl
theorem tiles_in : iprop(∃ d, owns (c : Thread nD τ) scratch fullShare d) ⊢ tiles (F := F) c := by
  rw [tiles_eq]
  simp only [scratch, owns_whole]
  iintro ⟨%f, H⟩
  ihave H' := (of_eq ((Ring.pointsTo_blocks (Ix := Unit) (Name := ℕ) (U := Pipeline.UD sig nD τ) (Lvl := ℕ) (ℓ := (c : Thread nD τ).loc cc0_scratch0) (q := fullShare) tileSet tiles_disjoint tiles_cover f).trans (six _))) $$ H
  irw [six]
  icases H' with ⟨H0, H1, H2, H3, H4, H5⟩
  isplitl [H0]; · iexists f; iexact H0
  isplitl [H1]; · iexists f; iexact H1
  isplitl [H2]; · iexists f; iexact H2
  isplitl [H3]; · iexists f; iexact H3
  isplitl [H4]; · iexists f; iexact H4
  iexists f; iexact H5
theorem tiles_out : tiles (F := F) c ⊢ iprop(∃ d, owns (c : Thread nD τ) scratch fullShare d) := by
  rw [tiles_eq]
  simp only [scratch, owns_whole]
  exact Ring.pointsTo_blocks_join_exists (ℓ := (c : Thread nD τ).loc cc0_scratch0) (q := fullShare) tileSet tiles_disjoint tiles_cover scratch.view.junk

/-- The weights whole at the full share are the six tiles' shares of them. -/
def shares : sProp 𝕄 := iprop(wholeP c W 0 0 ∗ wholeP c W 0 1 ∗ wholeP c W 1 0 ∗ wholeP c W 1 1 ∗ wholeP c W 2 0 ∗ wholeP c W 2 1)
/-- The weights held whole. -/
abbrev weightsP {sp : Space} {S : Shape} {e : EltTy} (M : Memref sig .tc sp S e) (f : Cont (F := F) c M) : sProp 𝕄 := M.view.loc (c : Thread nD τ) ↦{fullShare} f
theorem half (p : PosShare TreeShare) :
    ((((c : Thread nD τ).loc main_arg4) ↦[Finset.univ]{p} W : sProp 𝕄)) ⊣⊢ iprop((((c : Thread nD τ).loc main_arg4) ↦[Finset.univ]{p.left} W) ∗ (((c : Thread nD τ).loc main_arg4) ↦[Finset.univ]{p.right} W)) :=
  pointsTo_share (PosShare.mem_left_op_right p)
theorem shares_in : weightsP c weights W ⊢ shares c W := by
  unfold shares
  iintro H
  ihave H' := (half c W fullShare).1 $$ H
  icases H' with ⟨H0, H12⟩
  ihave H'' := (half c W fullShare.right).1 $$ H12
  icases H'' with ⟨H1, H2⟩
  ihave K0 := (half c W fullShare.left).1 $$ H0
  ihave K1 := (half c W fullShare.right.left).1 $$ H1
  ihave K2 := (half c W fullShare.right.right).1 $$ H2
  icases K0 with ⟨A0, B0⟩
  icases K1 with ⟨A1, B1⟩
  icases K2 with ⟨A2, B2⟩
  isplitl [A0]; · iexact A0
  isplitl [B0]; · iexact B0
  isplitl [A1]; · iexact A1
  isplitl [B1]; · iexact B1
  isplitl [A2]; · iexact A2
  iexact B2
theorem shares_out : shares c W ⊢ weightsP c weights W := by
  unfold shares
  iintro ⟨A0, B0, A1, B1, A2, B2⟩
  iapply (half c W fullShare).2
  isplitl [A0 B0]
  · iapply (half c W fullShare.left).2
    isplitl [A0]; · iexact A0
    iexact B0
  iapply (half c W fullShare.right).2
  isplitl [A1 B1]
  · iapply (half c W fullShare.right.left).2
    isplitl [A1]; · iexact A1
    iexact B1
  iapply (half c W fullShare.right.right).2
  isplitl [A2]; · iexact A2
  iexact B2

/-! ## What the launch hands the ring, and takes back -/

/-- The six cells at zero. -/
def idle : sProp 𝕄 := iprop(cellP (F := F) c 0 0 ∗ cellP (F := F) c 0 1 ∗ cellP (F := F) c 1 0 ∗ cellP (F := F) c 1 1 ∗ cellP (F := F) c 2 0 ∗ cellP (F := F) c 2 1)
theorem idle_eq : (Pipeline.ownSems0 (Ix := Unit) (Name := ℕ) (U := Pipeline.UD sig nD τ) (Lvl := ℕ) (Val := Elt F) (τ := τ) cells c : sProp 𝕄) = idle c := by
  rw [Pipeline.ownSems0_eq_of_list c cells [0, 1, 2, 3, 4, 5] (by decide) (by decide)]
  unfold idle cellP
  rw [cellR_00, cellR_01, cellR_10, cellR_11, cellR_20, cellR_21]; rfl
/-- The three slots free are the scratch, the cells at zero and the weights whole. -/
theorem free_in : iprop(tiles (F := F) c ∗ idle (F := F) c ∗ shares c W) ⊢ iprop(free c W 0 ∗ free c W 1 ∗ free c W 2) := by
  unfold tiles idle shares free freeT
  iintro ⟨⟨T0, T1, T2, T3, T4, T5⟩, ⟨C0, C1, C2, C3, C4, C5⟩, ⟨W0, W1, W2, W3, W4, W5⟩⟩
  isplitl [T0 C0 W0 T1 C1 W1]
  · isplitl [T0 C0 W0]
    · isplitl [C0]; · iexact C0
      isplitl [T0]; · iexact T0
      iexact W0
    · isplitl [C1]; · iexact C1
      isplitl [T1]; · iexact T1
      iexact W1
  isplitl [T2 C2 W2 T3 C3 W3]
  · isplitl [T2 C2 W2]
    · isplitl [C2]; · iexact C2
      isplitl [T2]; · iexact T2
      iexact W2
    · isplitl [C3]; · iexact C3
      isplitl [T3]; · iexact T3
      iexact W3
  · isplitl [T4 C4 W4]
    · isplitl [C4]; · iexact C4
      isplitl [T4]; · iexact T4
      iexact W4
    · isplitl [C5]; · iexact C5
      isplitl [T5]; · iexact T5
      iexact W5
theorem free_out : iprop(free c W 0 ∗ free c W 1 ∗ free c W 2) ⊢ iprop(tiles (F := F) c ∗ idle (F := F) c ∗ shares c W) := by
  unfold tiles idle shares free freeT
  iintro ⟨⟨⟨C0, T0, W0⟩, ⟨C1, T1, W1⟩⟩, ⟨⟨C2, T2, W2⟩, ⟨C3, T3, W3⟩⟩, ⟨⟨C4, T4, W4⟩, ⟨C5, T5, W5⟩⟩⟩
  isplitl [T0 T1 T2 T3 T4 T5]
  · isplitl [T0]; · iexact T0
    isplitl [T1]; · iexact T1
    isplitl [T2]; · iexact T2
    isplitl [T3]; · iexact T3
    isplitl [T4]; · iexact T4
    iexact T5
  isplitl [C0 C1 C2 C3 C4 C5]
  · isplitl [C0]; · iexact C0
    isplitl [C1]; · iexact C1
    isplitl [C2]; · iexact C2
    isplitl [C3]; · iexact C3
    isplitl [C4]; · iexact C4
    iexact C5
  isplitl [W0]; · iexact W0
  isplitl [W1]; · iexact W1
  isplitl [W2]; · iexact W2
  isplitl [W3]; · iexact W3
  isplitl [W4]; · iexact W4
  iexact W5
theorem ring_zero : ring c W 0 = iprop(free c W 0 ∗ free c W 1 ∗ free c W 2) := if_pos rfl
/-- Before the first point: every slot free. -/
theorem ring_in : iprop((∃ d, owns (c : Thread nD τ) scratch fullShare d) ∗ idle (F := F) c ∗ weightsP c weights W) ⊢ ring c W 0 := by
  rw [ring_zero]
  iintro ⟨HS, HC, HW⟩
  ihave HS' := (tiles_in (F := F) c) $$ HS
  ihave HW' := (shares_in (F := F) c W) $$ HW
  iapply (free_in c W)
  isplitl [HS']; · iexact HS'
  isplitl [HC]; · iexact HC
  iexact HW'
/-- After the last: every slot free again (slot 1, then 2, then 0). -/
theorem ring_out : ring c W 25 ⊢ iprop((∃ d, owns (c : Thread nD τ) scratch fullShare d) ∗ idle (F := F) c ∗ weightsP c weights W) := by
  rw [ring_pos c W (by decide), role_free c W (k := 25) (by decide), role_free c W (k := 25 + 1) (by decide), role_free c W (k := 25 + 2) (by decide)]
  iintro ⟨H1, H2, H0⟩
  ihave H := (free_out (F := F) c W) $$ [H0 H1 H2]
  · isplitl [H0]; · iexact H0
    isplitl [H1]; · iexact H1
    iexact H2
  icases H with ⟨HT, HC, HW⟩
  ihave HS' := (tiles_out (F := F) c) $$ HT
  ihave HW' := (shares_out (F := F) c W) $$ HW
  isplitl [HS']; · iexact HS'
  isplitl [HC]; · iexact HC
  iexact HW'

end Pieces

/-! ## The kernel's own spelling of its tiles, blocks and cells -/

/-- The first `scf.if` (start the first three blocks) is taken at point 0 only; -/
abbrev first (i : grid0.Coords) : Prop := (Scalar.cmpi .ne (Scalar.extui (Scalar.cmpi .eq (BitVec.ofNat 32 (i 0).val) 0#32)) 0#32) = 1#1
theorem first_iff : ∀ t : Fin cfg0.N, first (grid0.coords t) ↔ t.val = 0 :=
  (by decide +kernel : ∀ t : Fin grid0.N, first (grid0.coords t) ↔ t.val = 0)
/-- the second (start block `t + 3`) while there is such a block. -/
abbrev more (i : grid0.Coords) : Prop := k0_cond2 i = 1#1
theorem more_iff : ∀ t : Fin cfg0.N, more (grid0.coords t) ↔ t.val < 22 :=
  (by decide +kernel : ∀ t : Fin grid0.N, more (grid0.coords t) ↔ t.val < 22)

section Names

/-- A tile, block or cell is named by its offsets. -/
theorem tile_of (s : Fin 3) (w : Fin 2) {off : Fin 4 → Nat} (h : off = ![s.val, w.val, 0, 0]) (inb : ∀ a, off a + S1x1x1280x1024.size a ≤ S3x2x1280x1024.size a) :
    (scratch.slice (Rect.unit (s := S3x2x1280x1024) off S1x1x1280x1024.size inb) (fun _ => rfl)).squeeze S1280x1024 squeezes_S1x1x1280x1024_S1280x1024 = tile s w := by
  subst h; rfl
theorem block_of (w : Fin 2) (b : Fin 25) {off : Fin 3 → Nat} (h : off = ![w.val, 1280 * b.val, 0]) (inb : ∀ a, off a + S1x1280x1024.size a ≤ S2x32000x1024.size a) :
    (weights.slice (Rect.unit (s := S2x32000x1024) off S1x1280x1024.size inb) (fun _ => rfl)).squeeze S1280x1024 squeezes_S1x1280x1024_S1280x1024 = block w b := by
  subst h; rfl
theorem cell_of (s : Fin 3) (w : Fin 2) {off : Fin 2 → Nat} (h : off = ![s.val, w.val]) (inb : ∀ a, off a + S1x1.size a ≤ S3x2.size a) :
    (cc0_scratch1.slice (Rect.unit (s := S3x2) off S1x1.size inb)).squeeze S_ squeezes_S1x1_S_ = cellA s w := by
  subst h; rfl

set_option synthInstance.maxSize 4096

theorem at1 : ∀ t : Fin grid0.N, k0_off1 (grid0.coords t) = ![(Ring.sl 3 t.val).val, (0 : Fin 2).val] := by decide +kernel
theorem at2 : ∀ t : Fin grid0.N, k0_off2 (grid0.coords t) = ![(Ring.sl 3 t.val).val, (0 : Fin 2).val, 0, 0] := by decide +kernel
theorem at3 : ∀ t : Fin grid0.N, k0_off3 (grid0.coords t) = ![(0 : Fin 2).val, 1280 * (Ring.bk 25 t.val).val, 0] := by decide +kernel
theorem at4 : ∀ t : Fin grid0.N, k0_off4 (grid0.coords t) = ![(Ring.sl 3 t.val).val, (1 : Fin 2).val] := by decide +kernel
theorem at5 : ∀ t : Fin grid0.N, k0_off5 (grid0.coords t) = ![(Ring.sl 3 t.val).val, (1 : Fin 2).val, 0, 0] := by decide +kernel
theorem at6 : ∀ t : Fin grid0.N, k0_off6 (grid0.coords t) = ![(1 : Fin 2).val, 1280 * (Ring.bk 25 t.val).val, 0] := by decide +kernel
theorem at7 : ∀ t : Fin grid0.N, k0_off7 (grid0.coords t) = ![(Ring.sl 3 t.val).val, (0 : Fin 2).val, 0, 0] := by decide +kernel
theorem at8 : ∀ t : Fin grid0.N, k0_off8 (grid0.coords t) = ![(Ring.sl 3 t.val).val, (1 : Fin 2).val, 0, 0] := by decide +kernel
theorem at9 : ∀ t : Fin grid0.N, k0_off9 (grid0.coords t) = ![(Ring.sl 3 t.val).val, (0 : Fin 2).val] := by decide +kernel
theorem at10 : ∀ t : Fin grid0.N, k0_off10 (grid0.coords t) = ![(Ring.sl 3 t.val).val, (0 : Fin 2).val, 0, 0] := by decide +kernel
theorem at11 : ∀ t : Fin grid0.N, more (grid0.coords t) → k0_off11 (grid0.coords t) = ![(0 : Fin 2).val, 1280 * (Ring.bk 25 (t.val + 3)).val, 0] := by decide +kernel
theorem at12 : ∀ t : Fin grid0.N, k0_off12 (grid0.coords t) = ![(Ring.sl 3 t.val).val, (1 : Fin 2).val] := by decide +kernel
theorem at13 : ∀ t : Fin grid0.N, k0_off13 (grid0.coords t) = ![(Ring.sl 3 t.val).val, (1 : Fin 2).val, 0, 0] := by decide +kernel
theorem at14 : ∀ t : Fin grid0.N, more (grid0.coords t) → k0_off14 (grid0.coords t) = ![(1 : Fin 2).val, 1280 * (Ring.bk 25 (t.val + 3)).val, 0] := by decide +kernel

/-- The two loads' rectangles are the tiles of the slot waited for. -/
instance (priority := high) closed7 (t : Fin grid0.N) : ClosedOff (k0_off7 (grid0.coords t)) := ⟨![(Ring.sl 3 t.val).val, 0, 0, 0], at7 t⟩
instance (priority := high) closed8 (t : Fin grid0.N) : ClosedOff (k0_off8 (grid0.coords t)) := ⟨![(Ring.sl 3 t.val).val, 1, 0, 0], at8 t⟩

variable (t : Fin grid0.N)
/-- The waits', -/
@[sl_canon] theorem name1 : (cc0_scratch1.slice (Rect.unit (s := S3x2) (k0_off1 (grid0.coords t)) S1x1.size (k0_off1_inb (grid0.coords t)))).squeeze S_ squeezes_S1x1_S_ = cellA (Ring.sl 3 t.val) 0 := cell_of _ _ (at1 t) _
@[sl_canon] theorem name2 : (scratch.slice (Rect.unit (s := S3x2x1280x1024) (k0_off2 (grid0.coords t)) S1x1x1280x1024.size (k0_off2_inb (grid0.coords t))) (fun _ => rfl)).squeeze S1280x1024 squeezes_S1x1x1280x1024_S1280x1024 = tile (Ring.sl 3 t.val) 0 := tile_of _ _ (at2 t) _
@[sl_canon] theorem name3 : (weights.slice (Rect.unit (s := S2x32000x1024) (k0_off3 (grid0.coords t)) S1x1280x1024.size (k0_off3_inb (grid0.coords t))) (fun _ => rfl)).squeeze S1280x1024 squeezes_S1x1280x1024_S1280x1024 = block 0 (Ring.bk 25 t.val) := block_of _ _ (at3 t) _
@[sl_canon] theorem name4 : (cc0_scratch1.slice (Rect.unit (s := S3x2) (k0_off4 (grid0.coords t)) S1x1.size (k0_off4_inb (grid0.coords t)))).squeeze S_ squeezes_S1x1_S_ = cellA (Ring.sl 3 t.val) 1 := cell_of _ _ (at4 t) _
@[sl_canon] theorem name5 : (scratch.slice (Rect.unit (s := S3x2x1280x1024) (k0_off5 (grid0.coords t)) S1x1x1280x1024.size (k0_off5_inb (grid0.coords t))) (fun _ => rfl)).squeeze S1280x1024 squeezes_S1x1x1280x1024_S1280x1024 = tile (Ring.sl 3 t.val) 1 := tile_of _ _ (at5 t) _
@[sl_canon] theorem name6 : (weights.slice (Rect.unit (s := S2x32000x1024) (k0_off6 (grid0.coords t)) S1x1280x1024.size (k0_off6_inb (grid0.coords t))) (fun _ => rfl)).squeeze S1280x1024 squeezes_S1x1280x1024_S1280x1024 = block 1 (Ring.bk 25 t.val) := block_of _ _ (at6 t) _
/-- and the restarts'. -/
@[sl_canon] theorem name9 (h : more (grid0.coords t)) : (cc0_scratch1.slice (Rect.unit (s := S3x2) (k0_off9 (grid0.coords t)) S1x1.size (k0_off9_inb (grid0.coords t) h))).squeeze S_ squeezes_S1x1_S_ = cellA (Ring.sl 3 t.val) 0 := cell_of _ _ (at9 t) _
@[sl_canon] theorem name10 (h : more (grid0.coords t)) : (scratch.slice (Rect.unit (s := S3x2x1280x1024) (k0_off10 (grid0.coords t)) S1x1x1280x1024.size (k0_off10_inb (grid0.coords t) h)) (fun _ => rfl)).squeeze S1280x1024 squeezes_S1x1x1280x1024_S1280x1024 = tile (Ring.sl 3 t.val) 0 := tile_of _ _ (at10 t) _
@[sl_canon] theorem name11 (h : more (grid0.coords t)) : (weights.slice (Rect.unit (s := S2x32000x1024) (k0_off11 (grid0.coords t)) S1x1280x1024.size (k0_off11_inb (grid0.coords t) h)) (fun _ => rfl)).squeeze S1280x1024 squeezes_S1x1280x1024_S1280x1024 = block 0 (Ring.bk 25 (t.val + 3)) := block_of _ _ (at11 t h) _
@[sl_canon] theorem name12 (h : more (grid0.coords t)) : (cc0_scratch1.slice (Rect.unit (s := S3x2) (k0_off12 (grid0.coords t)) S1x1.size (k0_off12_inb (grid0.coords t) h))).squeeze S_ squeezes_S1x1_S_ = cellA (Ring.sl 3 t.val) 1 := cell_of _ _ (at12 t) _
@[sl_canon] theorem name13 (h : more (grid0.coords t)) : (scratch.slice (Rect.unit (s := S3x2x1280x1024) (k0_off13 (grid0.coords t)) S1x1x1280x1024.size (k0_off13_inb (grid0.coords t) h)) (fun _ => rfl)).squeeze S1280x1024 squeezes_S1x1x1280x1024_S1280x1024 = tile (Ring.sl 3 t.val) 1 := tile_of _ _ (at13 t) _
@[sl_canon] theorem name14 (h : more (grid0.coords t)) : (weights.slice (Rect.unit (s := S2x32000x1024) (k0_off14 (grid0.coords t)) S1x1280x1024.size (k0_off14_inb (grid0.coords t) h)) (fun _ => rfl)).squeeze S1280x1024 squeezes_S1x1280x1024_S1280x1024 = block 1 (Ring.bk 25 (t.val + 3)) := block_of _ _ (at14 t h) _

end Names

end Cert.KernelIdeal.Stream

end
-- ==== Proof.Tile.lean ====
/- What one point of the kernel computes, and what a run of it at a point is to be shown to do. -/
module

public import proofs.«01_k».proof.Proof.Ring
public import Idealize.ShloMosaic.Lib.VecWindow

@[expose] public section

set_option maxRecDepth 16384

noncomputable section

namespace Cert.KernelIdeal.Stream

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-! ## The tile of the output a point stores -/

/-- Expert `w`'s weights of vocabulary rows `1280 b …`: one block of the operand, read. -/
def weightsOf {c : Dev nD} (W : Cont (F := F) c weights) (w : Fin 2) (b : Fin 25) : Vec F S1280x1024 .f32 := (block w b).view.read (Elt F) W

/-- The activations, kept in the rows routed to expert `e` and multiplied by zero in the others. -/
def routedTo (e : BitVec 32) (x0 : Vec F S64x1 .i32) (x1 : Vec F S64x1024 .f32) : FVec F S64x1024 .f32 :=
  mulf x1 (broadcastTo S64x1024 (sitofp .f32 (extui 32 (cmpi .eq (k0_pay2 (F := F) x0) (broadcast S64x1 e)) natLt_1_32)) broadcasts_S64x1_S64x1024)

/-- The stored tile: each expert's product with the rows routed to it, added up. -/
def outTile (x0 : Vec F S64x1 .i32) (x1 : Vec F S64x1024 .f32) (D0 D1 : Vec F S1280x1024 .f32) : Vec F S64x1280 .f32 :=
  addf (matmul dot_S64x1024_S1280x1024_S64x1280_1_1_0_0_n_n none (routedTo 0#32 x0 x1) D0 (constant S64x1280 .f32 0x00000000#32))
    (matmul dot_S64x1024_S1280x1024_S64x1280_1_1_0_0_n_n none (routedTo 1#32 x0 x1) D1 (constant S64x1280 .f32 0x00000000#32))

theorem pay_eq (x0 : Vec F S64x1 .i32) (x1 : Vec F S64x1024 .f32) (v28 v38 : Vec F S1x1x1280x1024 .f32) :
    k0_pay1 (k0_pay2 (F := F) x0) x1 (k0_pay3 x0 x1) (k0_pay4 v28) (constant S64x1280 .f32 0x00000000#32) v38
      = outTile x0 x1 (shapeCast S1280x1024 v28 shapeCasts_S1x1x1280x1024_S1280x1024) (shapeCast S1280x1024 v38 shapeCasts_S1x1x1280x1024_S1280x1024) := rfl

/-- A whole tile loaded after a transfer landed in it is what the transfer carried. -/
theorem load_tile (s : Fin 3) (w : Fin 2) {off : Fin 4 → Nat} (h : off = ![s.val, w.val, 0, 0]) (inb : ∀ a, off a + S1x1x1280x1024.size a ≤ S3x2x1280x1024.size a)
    (f : (tile s w).view.ty.Contents (Elt F)) (v : Vec F S1280x1024 .f32) :
    shapeCast S1280x1024 (scratch.view.readAt (Elt F) (Rect.unit (s := S3x2x1280x1024) off S1x1x1280x1024.size inb).toLoadRect
      ((tile s w).view.writes (Elt F) f [⟨Rect.whole S1280x1024, v⟩])) shapeCasts_S1x1x1280x1024_S1280x1024 = v := by
  subst h
  refine Eq.trans (b := (tile s w).view.read (Elt F) ((tile s w).view.writes (Elt F) f [⟨Rect.whole S1280x1024, v⟩])) rfl ?_
  funext y
  exact View.read_writes_cons_hit (tile s w).view f (Rect.whole S1280x1024) v [] y y (Rect.emb_whole_apply S1280x1024 y)

/-- The stored tile from what the body loads: the index column, the activations, and the two landed tiles of its slot. -/
theorem stored (c : Dev nD) (t : Fin cfg0.N) {arg1 : Memref sig .tc .vmem S64x1 .i32} (harg1 : arg1.IsWhole) {arg2 : Memref sig .tc .vmem S64x1024 .f32} (harg2 : arg2.IsWhole)
    (x0 : Vec F S64x1 .i32) (x1 : Vec F S64x1024 .f32) (D0 D1 : Vec F S1280x1024 .f32)
    (f0 : (tile (Ring.sl 3 t.val) 0).view.ty.Contents (Elt F)) (f1 : (tile (Ring.sl 3 t.val) 1).view.ty.Contents (Elt F)) :
    k0_pay1
      (k0_pay2 (F := F) (arg1.view.readAt (Elt F) (Rect.unit (s := S64x1) ![0, 0] S64x1.size inb_S64x1_S64x1_0_0).toLoadRect (harg1.unread x0)))
      (arg2.view.readAt (Elt F) (Rect.unit (s := S64x1024) ![0, 0] S64x1024.size inb_S64x1024_S64x1024_0_0).toLoadRect (harg2.unread x1))
      (k0_pay3 (arg1.view.readAt (Elt F) (Rect.unit (s := S64x1) ![0, 0] S64x1.size inb_S64x1_S64x1_0_0).toLoadRect (harg1.unread x0))
        (arg2.view.readAt (Elt F) (Rect.unit (s := S64x1024) ![0, 0] S64x1024.size inb_S64x1024_S64x1024_0_0).toLoadRect (harg2.unread x1)))
      (k0_pay4 (scratch.view.readAt (Elt F) (Rect.unit (s := S3x2x1280x1024) (k0_off7 (grid0.coords t)) S1x1x1280x1024.size (k0_off7_inb (grid0.coords t))).toLoadRect
        ((tile (Ring.sl 3 t.val) 0).view.writes (Elt F) f0 [⟨Rect.whole S1280x1024, D0⟩])))
      (constant S64x1280 .f32 0x00000000#32)
      (scratch.view.readAt (Elt F) (Rect.unit (s := S3x2x1280x1024) (k0_off8 (grid0.coords t)) S1x1x1280x1024.size (k0_off8_inb (grid0.coords t))).toLoadRect
        ((tile (Ring.sl 3 t.val) 1).view.writes (Elt F) f1 [⟨Rect.whole S1280x1024, D1⟩]))
      = outTile x0 x1 D0 D1 := by
  rw [View.readAt_full, View.readAt_full, harg1.read_unread, harg2.read_unread, pay_eq, load_tile _ _ (at7 t), load_tile _ _ (at8 t)]

/-! ## A run at a point -/

/-- Run at point `t` on whole staging buffers holding the index column `x0` and the activations `x1`, from the ring pieces
    `P`, the body ends with the output buffer at the point's tile and the ring pieces `Q`, its inputs as they were. -/
def Runs (c : Dev nD) (t : Fin cfg0.N) (W : Cont (F := F) c weights) (P Q : sProp 𝕄) : Prop :=
  ∀ (arg1 : Memref sig .tc .vmem S64x1 .i32) (harg1 : arg1.IsWhole) (arg2 : Memref sig .tc .vmem S64x1024 .f32) (harg2 : arg2.IsWhole)
    (arg4 : Memref sig .tc .vmem S64x1280 .f32) (harg4 : arg4.IsWhole) (x0 : Vec F S64x1 .i32) (x1 : Vec F S64x1024 .f32)
    (wt : Waits sig Unit) (K : PUnit → sProp 𝕄),
    iprop(owns (c : Thread nD τ) arg1 fullShare x0 ∗ owns (c : Thread nD τ) arg2 fullShare x1 ∗ (∃ d, owns (c : Thread nD τ) arg4 fullShare d)
        ∗ P ∗ owes (c : Thread nD τ) 0 wt
        ∗ (iprop(owns (c : Thread nD τ) arg1 fullShare x0 ∗ owns (c : Thread nD τ) arg2 fullShare x1
            ∗ owns (c : Thread nD τ) arg4 fullShare (outTile x0 x1 (weightsOf W 0 (Ring.bk 25 t.val)) (weightsOf W 1 (Ring.bk 25 t.val)))
            ∗ Q ∗ (∃ wt', owes (c : Thread nD τ) 0 wt')) -∗ K ⟨⟩))
      ⊢ wp frame (wpE (defs₀ (F := F)) Variants.none c none) Set.univ
          (cc0__routed_lmhead_kernel (grid0.coords t) arg1 harg1 arg2 harg2 (Memref.whole main_arg4) (Memref.isWhole_whole _) arg4 harg4 scratch (Memref.isWhole_whole _) cc0_scratch1) K

end Cert.KernelIdeal.Stream

end
-- ==== Proof.RunMiddle.lean ====
/- The points that wait, compute, and start a further block into the slot they waited for. -/
module

public import proofs.«01_k».proof.Proof.Tile

@[expose] public section

set_option maxRecDepth 16384

noncomputable section

namespace Cert.KernelIdeal.Stream

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-- The block started is not the block waited for. -/
theorem next_ne {t : ℕ} (h : t + 3 < 25) : Ring.bk 25 t ≠ Ring.bk 25 (t + 3) := by
  intro e
  have : t % 25 = (t + 3) % 25 := congrArg Fin.val e
  omega

set_option maxHeartbeats 1000000 in
/-- At such a point the slot waited for ends busy with the block three further on. -/
theorem run_middle (c : Dev nD) (t : Fin cfg0.N) (hfirst : ¬first (grid0.coords t)) (hmore : more (grid0.coords t)) (W : Cont (F := F) c weights) :
    Runs c t W (busy c W (Ring.sl 3 t.val) (Ring.bk 25 t.val)) (busy c W (Ring.sl 3 t.val) (Ring.bk 25 (t.val + 3))) := by
  intro arg1 harg1 arg2 harg2 arg4 harg4 x0 x1 wt K
  have hne : Ring.bk 25 t.val ≠ Ring.bk 25 (t.val + 3) := next_ne (by have := (more_iff t).mp hmore; omega)
  haveI : Fact (¬first (grid0.coords t)) := ⟨hfirst⟩
  haveI : Fact (more (grid0.coords t)) := ⟨hmore⟩
  simp only [cc0__routed_lmhead_kernel_eq_skeleton]; unfold cc0__routed_lmhead_kernel_skel
  simp only [k0_part2_eq_skeleton]
  unfold owns busy busyT
  iintro ⟨⟨%f0, %hf0, H0⟩, ⟨%f1, %hf1, H1⟩, ⟨%d2, %f2, -, H2⟩, ⟨⟨⟨%g0, HF0⟩, HR0⟩, ⟨⟨%g1, HF1⟩, HR1⟩⟩, HW, Hk⟩
  ihave HR0' := (rest_split c W _ _ hne).1 $$ HR0
  icases HR0' with ⟨HS0, HR0⟩
  ihave HR1' := (rest_split c W _ _ hne).1 $$ HR1
  icases HR1' with ⟨HS1, HR1⟩
  obtain rfl := harg1.eq_unread hf0; obtain rfl := harg2.eq_unread hf1
  have hcanon9 := name9 t hmore
  have hcanon10 := name10 t hmore
  have hcanon11 := name11 t hmore
  have hcanon12 := name12 t hmore
  have hcanon13 := name13 t hmore
  have hcanon14 := name14 t hmore
  sl_exec (disch := first | sl_exact hfirst | sl_exact hmore)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr
    swap; · iexact H2
    ipureintro; exact (View.read_writes_full _ _ _ _ _).trans (stored c t harg1 harg2 x0 x1 _ _ _ _)
  isplitr [HW]
  swap; · iexists _; iexact HW
  isplitl [HF0 HF0_src HR0]
  · isplitl [HF0]; · iexists _; iexact HF0
    iapply (rest_swap c W _ _ hne)
    isplitl [HF0_src]; · iexact HF0_src
    iexact HR0
  · isplitl [HF1]; · iexists _; iexact HF1
    iapply (rest_swap c W _ _ hne)
    isplitl [HF1_src]; · iexact HF1_src
    iexact HR1

end Cert.KernelIdeal.Stream

end
-- ==== Proof.RunFirst.lean ====
/- The first point: start blocks 0, 1, 2, wait for block 0, compute, and start block 3. -/
module

public import proofs.«01_k».proof.Proof.RunMiddle

@[expose] public section

set_option maxRecDepth 16384

noncomputable section

namespace Cert.KernelIdeal.Stream

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

set_option maxHeartbeats 2000000 in
/-- At the first point every slot is free before, and every slot is busy after. -/
theorem run_first (c : Dev nD) (t : Fin cfg0.N) (hfirst : first (grid0.coords t)) (hmore : more (grid0.coords t)) (W : Cont (F := F) c weights) :
    Runs c t W (iprop(free c W (Ring.sl 3 t.val) ∗ free c W (Ring.sl 3 (t.val + 1)) ∗ free c W (Ring.sl 3 (t.val + 2))))
      (iprop(busy c W (Ring.sl 3 (t.val + 1)) (Ring.bk 25 (t.val + 1)) ∗ busy c W (Ring.sl 3 (t.val + 2)) (Ring.bk 25 (t.val + 2)) ∗ busy c W (Ring.sl 3 t.val) (Ring.bk 25 (t.val + 3)))) := by
  intro arg1 harg1 arg2 harg2 arg4 harg4 x0 x1 wt K
  have hne : Ring.bk 25 t.val ≠ Ring.bk 25 (t.val + 3) := next_ne (by have := (more_iff t).mp hmore; omega)
  have ht : t.val = 0 := (first_iff t).mp hfirst
  haveI : Fact (first (grid0.coords t)) := ⟨hfirst⟩
  haveI : Fact (more (grid0.coords t)) := ⟨hmore⟩
  simp only [cc0__routed_lmhead_kernel_eq_skeleton]; unfold cc0__routed_lmhead_kernel_skel
  simp only [k0_part2_eq_skeleton, k0_part1_eq_skeleton]
  have hcanon_c00 := cell_of (Ring.sl 3 t.val) 0 (by rw [ht]; rfl) inb_S3x2_S1x1_0_0
  have hcanon_c01 := cell_of (Ring.sl 3 t.val) 1 (by rw [ht]; rfl) inb_S3x2_S1x1_0_1
  have hcanon_c10 := cell_of (Ring.sl 3 (t.val + 1)) 0 (by rw [ht]; rfl) inb_S3x2_S1x1_1_0
  have hcanon_c11 := cell_of (Ring.sl 3 (t.val + 1)) 1 (by rw [ht]; rfl) inb_S3x2_S1x1_1_1
  have hcanon_c20 := cell_of (Ring.sl 3 (t.val + 2)) 0 (by rw [ht]; rfl) inb_S3x2_S1x1_2_0
  have hcanon_c21 := cell_of (Ring.sl 3 (t.val + 2)) 1 (by rw [ht]; rfl) inb_S3x2_S1x1_2_1
  have hcanon_t00 := tile_of (Ring.sl 3 t.val) 0 (by rw [ht]; rfl) inb_S3x2x1280x1024_S1x1x1280x1024_0_0_0_0
  have hcanon_t01 := tile_of (Ring.sl 3 t.val) 1 (by rw [ht]; rfl) inb_S3x2x1280x1024_S1x1x1280x1024_0_1_0_0
  have hcanon_t10 := tile_of (Ring.sl 3 (t.val + 1)) 0 (by rw [ht]; rfl) inb_S3x2x1280x1024_S1x1x1280x1024_1_0_0_0
  have hcanon_t11 := tile_of (Ring.sl 3 (t.val + 1)) 1 (by rw [ht]; rfl) inb_S3x2x1280x1024_S1x1x1280x1024_1_1_0_0
  have hcanon_t20 := tile_of (Ring.sl 3 (t.val + 2)) 0 (by rw [ht]; rfl) inb_S3x2x1280x1024_S1x1x1280x1024_2_0_0_0
  have hcanon_t21 := tile_of (Ring.sl 3 (t.val + 2)) 1 (by rw [ht]; rfl) inb_S3x2x1280x1024_S1x1x1280x1024_2_1_0_0
  have hcanon_b00 := block_of 0 (Ring.bk 25 t.val) (by rw [ht]; rfl) inb_S2x32000x1024_S1x1280x1024_0_0_0
  have hcanon_b01 := block_of 1 (Ring.bk 25 t.val) (by rw [ht]; rfl) inb_S2x32000x1024_S1x1280x1024_1_0_0
  have hcanon_b10 := block_of 0 (Ring.bk 25 (t.val + 1)) (by rw [ht]; rfl) inb_S2x32000x1024_S1x1280x1024_0_1280_0
  have hcanon_b11 := block_of 1 (Ring.bk 25 (t.val + 1)) (by rw [ht]; rfl) inb_S2x32000x1024_S1x1280x1024_1_1280_0
  have hcanon_b20 := block_of 0 (Ring.bk 25 (t.val + 2)) (by rw [ht]; rfl) inb_S2x32000x1024_S1x1280x1024_0_2560_0
  have hcanon_b21 := block_of 1 (Ring.bk 25 (t.val + 2)) (by rw [ht]; rfl) inb_S2x32000x1024_S1x1280x1024_1_2560_0
  have hcanon9 := name9 t hmore
  have hcanon10 := name10 t hmore
  have hcanon11 := name11 t hmore
  have hcanon12 := name12 t hmore
  have hcanon13 := name13 t hmore
  have hcanon14 := name14 t hmore
  unfold owns free busy busyT freeT
  iintro ⟨⟨%f0, %hf0, H0⟩, ⟨%f1, %hf1, H1⟩, ⟨%d2, %f2, -, H2⟩,
    ⟨⟨⟨C00, ⟨%g00, T00⟩, W00⟩, ⟨C01, ⟨%g01, T01⟩, W01⟩⟩, ⟨⟨C10, ⟨%g10, T10⟩, W10⟩, ⟨C11, ⟨%g11, T11⟩, W11⟩⟩, ⟨⟨C20, ⟨%g20, T20⟩, W20⟩, ⟨C21, ⟨%g21, T21⟩, W21⟩⟩⟩, HW, Hk⟩
  ihave W00' := (src_split c W (Ring.sl 3 t.val) 0 (Ring.bk 25 t.val)).1 $$ W00
  icases W00' with ⟨S00, R00⟩
  ihave W01' := (src_split c W (Ring.sl 3 t.val) 1 (Ring.bk 25 t.val)).1 $$ W01
  icases W01' with ⟨S01, R01⟩
  ihave W10' := (src_split c W (Ring.sl 3 (t.val + 1)) 0 (Ring.bk 25 (t.val + 1))).1 $$ W10
  icases W10' with ⟨S10, R10⟩
  ihave W11' := (src_split c W (Ring.sl 3 (t.val + 1)) 1 (Ring.bk 25 (t.val + 1))).1 $$ W11
  icases W11' with ⟨S11, R11⟩
  ihave W20' := (src_split c W (Ring.sl 3 (t.val + 2)) 0 (Ring.bk 25 (t.val + 2))).1 $$ W20
  icases W20' with ⟨S20, R20⟩
  ihave W21' := (src_split c W (Ring.sl 3 (t.val + 2)) 1 (Ring.bk 25 (t.val + 2))).1 $$ W21
  icases W21' with ⟨S21, R21⟩
  ihave R00' := (rest_split c W _ _ hne).1 $$ R00
  icases R00' with ⟨S30, R00⟩
  ihave R01' := (rest_split c W _ _ hne).1 $$ R01
  icases R01' with ⟨S31, R01⟩
  obtain rfl := harg1.eq_unread hf0; obtain rfl := harg2.eq_unread hf1
  sl_exec (disch := first | sl_exact hfirst | sl_exact hmore)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr
    swap; · iexact H2
    ipureintro; exact (View.read_writes_full _ _ _ _ _).trans (stored c t harg1 harg2 x0 x1 _ _ _ _)
  isplitr [HW]
  swap; · iexists _; iexact HW
  isplitl [C10 R10 C11 R11]
  · isplitl [C10 R10]
    · isplitl [C10]; · iexists _; iexact C10
      iexact R10
    · isplitl [C11]; · iexists _; iexact C11
      iexact R11
  isplitl [C20 R20 C21 R21]
  · isplitl [C20 R20]
    · isplitl [C20]; · iexists _; iexact C20
      iexact R20
    · isplitl [C21]; · iexists _; iexact C21
      iexact R21
  isplitl [C00 S00 R00]
  · isplitl [C00]; · iexists _; iexact C00
    iapply (rest_swap c W _ _ hne)
    isplitl [S00]; · iexact S00
    iexact R00
  · isplitl [C01]; · iexists _; iexact C01
    iapply (rest_swap c W _ _ hne)
    isplitl [S01]; · iexact S01
    iexact R01

end Cert.KernelIdeal.Stream

end
-- ==== Proof.RunLast.lean ====
/- The last three points: wait, compute, and start nothing. -/
module

public import proofs.«01_k».proof.Proof.Tile

@[expose] public section

set_option maxRecDepth 16384

noncomputable section

namespace Cert.KernelIdeal.Stream

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

set_option maxHeartbeats 1000000 in
/-- At a point with no further block to start, the slot waited for ends free. -/
theorem run_last (c : Dev nD) (t : Fin cfg0.N) (hfirst : ¬first (grid0.coords t)) (hmore : ¬more (grid0.coords t)) (W : Cont (F := F) c weights) :
    Runs c t W (busy c W (Ring.sl 3 t.val) (Ring.bk 25 t.val)) (free c W (Ring.sl 3 t.val)) := by
  intro arg1 harg1 arg2 harg2 arg4 harg4 x0 x1 wt K
  haveI : Fact (¬first (grid0.coords t)) := ⟨hfirst⟩
  haveI : Fact (¬more (grid0.coords t)) := ⟨hmore⟩
  simp only [cc0__routed_lmhead_kernel_eq_skeleton]; unfold cc0__routed_lmhead_kernel_skel
  simp only [k0_part2_eq_skeleton]
  unfold owns busy free busyT freeT
  iintro ⟨⟨%f0, %hf0, H0⟩, ⟨%f1, %hf1, H1⟩, ⟨%d2, %f2, -, H2⟩, ⟨⟨⟨%g0, HF0⟩, HR0⟩, ⟨⟨%g1, HF1⟩, HR1⟩⟩, HW, Hk⟩
  obtain rfl := harg1.eq_unread hf0; obtain rfl := harg2.eq_unread hf1
  sl_exec (disch := first | sl_exact hfirst | sl_exact hmore)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr
    swap; · iexact H2
    ipureintro; exact (View.read_writes_full _ _ _ _ _).trans (stored c t harg1 harg2 x0 x1 _ _ _ _)
  isplitr [HW]
  swap; · iexists _; iexact HW
  isplitl [HF0 HF0_dst HF0_src HR0]
  · isplitl [HF0]; · iexact HF0
    isplitl [HF0_dst]; · iexists _; iexact HF0_dst
    iapply (src_split c W _ _ _).2
    isplitl [HF0_src]; · iexact HF0_src
    iexact HR0
  · isplitl [HF1]; · iexact HF1
    isplitl [HF1_dst]; · iexists _; iexact HF1_dst
    iapply (src_split c W _ _ _).2
    isplitl [HF1_src]; · iexact HF1_src
    iexact HR1

end Cert.KernelIdeal.Stream

end
-- ==== Proof.Point.lean ====
/- Every point takes the ring one block further. -/
module

public import proofs.«01_k».proof.Proof.RunFirst
public import proofs.«01_k».proof.Proof.RunLast

@[expose] public section

set_option maxRecDepth 16384

noncomputable section

namespace Cert.KernelIdeal.Stream

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-- A run from `P` to `Q` is a run between anything giving `P` and anything `Q` gives. -/
theorem Runs.between {c : Dev nD} {t : Fin cfg0.N} {W : Cont (F := F) c weights} {P P' Q Q' : sProp 𝕄} (h : Runs c t W P Q) (hP : P' ⊢ P) (hQ : Q ⊢ Q') : Runs c t W P' Q' := by
  intro arg1 harg1 arg2 harg2 arg4 harg4 x0 x1 wt K
  iintro ⟨H0, H1, H2, HP, HW, Hk⟩
  iapply (h arg1 harg1 arg2 harg2 arg4 harg4 x0 x1 wt K)
  isplitl [H0]; · iexact H0
  isplitl [H1]; · iexact H1
  isplitl [H2]; · iexact H2
  isplitl [HP]; · iapply hP; iexact HP
  isplitl [HW]; · iexact HW
  iintro ⟨H0, H1, H2, HQ, HW⟩
  iapply Hk
  isplitl [H0]; · iexact H0
  isplitl [H1]; · iexact H1
  isplitl [H2]; · iexact H2
  isplitl [HQ]; · iapply hQ; iexact HQ
  iexact HW

/-- What a run does not touch stays. -/
theorem Runs.beside {c : Dev nD} {t : Fin cfg0.N} {W : Cont (F := F) c weights} {P Q : sProp 𝕄} (h : Runs c t W P Q) (R : sProp 𝕄) : Runs c t W (iprop(P ∗ R)) (iprop(Q ∗ R)) := by
  intro arg1 harg1 arg2 harg2 arg4 harg4 x0 x1 wt K
  iintro ⟨H0, H1, H2, ⟨HP, HR⟩, HW, Hk⟩
  iapply (h arg1 harg1 arg2 harg2 arg4 harg4 x0 x1 wt K)
  isplitl [H0]; · iexact H0
  isplitl [H1]; · iexact H1
  isplitl [H2]; · iexact H2
  isplitl [HP]; · iexact HP
  isplitl [HW]; · iexact HW
  iintro ⟨H0, H1, H2, HQ, HW⟩
  iapply Hk
  isplitl [H0]; · iexact H0
  isplitl [H1]; · iexact H1
  isplitl [H2]; · iexact H2
  isplitl [HQ HR]
  · isplitl [HQ]; · iexact HQ
    iexact HR
  iexact HW

/-- The three pieces after a later point, in the order the next point lists them. -/
theorem turn (A B C : sProp 𝕄) : iprop(A ∗ B ∗ C) ⊢ iprop(B ∗ C ∗ A) := by
  iintro ⟨HA, HB, HC⟩
  isplitl [HB]; · iexact HB
  isplitl [HC]; · iexact HC
  iexact HA

/-- At any point the body takes the ring before it to the ring before the next. -/
theorem run_point (c : Dev nD) (t : Fin cfg0.N) (W : Cont (F := F) c weights) : Runs c t W (ring c W t.val) (ring c W (t.val + 1)) := by
  have hN : t.val < 25 := lt_of_lt_of_eq t.isLt (show cfg0.N = 25 from N_0)
  by_cases h0 : t.val = 0
  · refine (run_first c t ((first_iff t).mpr h0) ((more_iff t).mpr (by omega)) W).between (of_eq ?_) (of_eq ?_)
    · rw [h0, ring_zero]; rfl
    · rw [h0, ring_succ, role_busy c W (k := 0 + 1) (by decide), role_busy c W (k := 0 + 2) (by decide), role_again c W (k := 0) (by decide)]
  by_cases h1 : t.val < 22
  · refine ((run_middle c t (fun h => h0 ((first_iff t).mp h)) ((more_iff t).mpr h1) W).beside (iprop(role c W (t.val + 1) ∗ role c W (t.val + 2)))).between (of_eq ?_) ?_
    · rw [ring_pos c W (by omega), role_busy c W hN]
    · rw [ring_succ, role_again c W (by omega)]; exact turn _ _ _
  · refine ((run_last c t (fun h => h0 ((first_iff t).mp h)) (fun h => h1 ((more_iff t).mp h)) W).beside (iprop(role c W (t.val + 1) ∗ role c W (t.val + 2)))).between (of_eq ?_) ?_
    · rw [ring_pos c W (by omega), role_busy c W hN]
    · rw [ring_succ, role_done c W (by omega)]; exact turn _ _ _

end Cert.KernelIdeal.Stream

end
-- ==== Proof.Region.lean ====
/- The launch: the pipeline's proof data on top of the ring, the body at every point, and the run of @main. -/
module

public import proofs.«01_k».proof.Proof.Point
public import Idealize.ShloMosaic.Lib.Claim

@[expose] public section

set_option maxRecDepth 16384

noncomputable section

namespace Cert.KernelIdeal.Stream

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-- @main reaches the region with the operands as launched. -/
theorem reach : Pipeline.HMain (Ix := Unit) (Name := ℕ) (U := Pipeline.UD sig nD τ) (Lvl := ℕ) cfgs 0 defs₀ Variants.none m (main (F := F)) (V m) :=
  Pipeline.hmain_prefix cfgs 0 defs₀ Variants.none m main hostOps0 hostOps0_sub hostOps0_fresh main_chain

/-- The tile of the output point `t` stores, from the operands as launched. -/
def tileAt (c : Dev nD) (t : Fin cfg0.N) : Vec F S64x1280 .f32 :=
  outTile (iblk m c 0 t) (iblk m c 1 t) (weightsOf (V m c main_arg4) 0 (Ring.bk 25 t.val)) (weightsOf (V m c main_arg4) 1 (Ring.bk 25 t.val))

/-- Before point `k`: the generator's register at something, and the ring. -/
def between (c : Dev nD) (k : ℕ) : sProp 𝕄 := iprop((∃ r, prngReg c r) ∗ ring c (V m c main_arg4) k)

/-- The proof data: the arrays as launched; after point `t` the two staged inputs at their blocks and the output's buffer at
    `tileAt`; `between` holds between points. -/
def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => tileAt m c t
  Φ t := between m c t.val
  q _ := fullShare
  owed _ := 0

theorem arrays (c : Dev nD) (w : Fin cfg0.W) : (dats m 0 c).A w = V m c (Pipeline.arrRef spec0 w) := by dsimp only [dats]
theorem left0 (c : Dev nD) (t : Fin cfg0.N) : (dats m 0 c).after 0 t = iblk m c 0 t := by dsimp only [dats]
theorem left1 (c : Dev nD) (t : Fin cfg0.N) : (dats m 0 c).after 1 t = iblk m c 1 t := by dsimp only [dats]
theorem left2 (c : Dev nD) (t : Fin cfg0.N) : (dats m 0 c).after 2 t = tileAt m c t := by dsimp only [dats]
theorem start_of (c : Dev nD) (t : Fin cfg0.N) : (dats m 0 c).Φ t.castSucc = between m c t.val := by
  dsimp only [dats]; simp only [Fin.coe_castSucc]
theorem end_of (c : Dev nD) (t : Fin cfg0.N) : (dats m 0 c).Φ t.succ = between m c (t.val + 1) := by
  dsimp only [dats]; simp only [Fin.val_succ]

/-- A staged input's buffer holds its block at every point. -/
theorem found0 (c : Dev nD) (t : Fin cfg0.N) (d) : (dats m 0 c).before 0 t d = iblk m c 0 t :=
  ((dats m 0 c).before_in_eq_fetched 0 rfl (fun _ => rfl) (fun _ _ _ => rfl) (fun t => by rw [left0]; unfold Dat.blockOf iblk; rw [arrays]) t d).trans
    (by unfold Dat.fetched Dat.blockOf iblk; rw [arrays]; rfl)
theorem found1 (c : Dev nD) (t : Fin cfg0.N) (d) : (dats m 0 c).before 1 t d = iblk m c 1 t :=
  ((dats m 0 c).before_in_eq_fetched 1 rfl (fun _ => rfl) (fun _ _ _ => rfl) (fun t => by rw [left1]; unfold Dat.blockOf iblk; rw [arrays]) t d).trans
    (by unfold Dat.fetched Dat.blockOf iblk; rw [arrays]; rfl)

/-! ## The body at a point -/

/-- The staging buffers of a point. -/
abbrev buf0 (t : Fin cfg0.N) : Memref sig .tc .vmem S64x1 .i32 := win0_0.stage (cfg0.slots t 0)
abbrev buf1 (t : Fin cfg0.N) : Memref sig .tc .vmem S64x1024 .f32 := win0_1.stage (cfg0.slots t 1)
abbrev buf2 (t : Fin cfg0.N) : Memref sig .tc .vmem S64x1280 .f32 := win0_2.stage (cfg0.slots t 2)

/-- What the body is called with, -/
def given (c : Dev nD) (t : Fin cfg0.N) : sProp 𝕄 :=
  iprop((dats m 0 c).Φ t.castSucc ∗ (dats m 0 c).owesAt () t.castSucc
    ∗ (∃ d, owns (c : Thread nD τ) (buf0 t) fullShare ((dats m 0 c).before 0 t d))
    ∗ (∃ d, owns (c : Thread nD τ) (buf1 t) fullShare ((dats m 0 c).before 1 t d))
    ∗ (∃ d, owns (c : Thread nD τ) (buf2 t) fullShare ((dats m 0 c).before 2 t d)))
/-- and what it returns. -/
def returned (c : Dev nD) (t : Fin cfg0.N) : sProp 𝕄 :=
  iprop((dats m 0 c).Φ t.succ ∗ (dats m 0 c).owesAt () t.succ
    ∗ owns (c : Thread nD τ) (buf0 t) fullShare ((dats m 0 c).after 0 t)
    ∗ owns (c : Thread nD τ) (buf1 t) fullShare ((dats m 0 c).after 1 t)
    ∗ owns (c : Thread nD τ) (buf2 t) fullShare ((dats m 0 c).after 2 t))

theorem body_sound (c : Dev nD) (t : Fin cfg0.N) :
    given m c t ⊢ wp frame (wpE (defs₀ (F := F)) Variants.none c none) Set.univ (bodyAt0 t) (fun _ => returned m c t) := by
  unfold given returned bodyAt0
  simp only [found0, found1]
  rw [left0, left1, left2, start_of, end_of]
  unfold Dat.owesAt Pipeline.owesWithin
  rw [show (dats m 0 c).owed t.castSucc = 0 from rfl, show (dats m 0 c).owed t.succ = 0 from rfl]
  unfold between tileAt
  iintro ⟨⟨Hg, HR⟩, ⟨%wt, -, HW⟩, ⟨%d0, H0⟩, ⟨%d1, H1⟩, ⟨%d2, H2⟩⟩
  iapply (run_point c t (V m c main_arg4) _ _ _ _ _ _ (iblk m c 0 t) (iblk m c 1 t) wt _)
  isplitl [H0]; · iexact H0
  isplitl [H1]; · iexact H1
  isplitl [H2]; · iexists _; iexact H2
  isplitl [HR]; · iexact HR
  isplitl [HW]; · iexact HW
  iintro ⟨H0, H1, H2, HR, ⟨%wt', HW⟩⟩
  isplitl [Hg HR]
  · isplitl [Hg]; · iexact Hg
    iexact HR
  isplitl [HW]
  · iexists wt'; isplitr; · ipureintro; exact fun _ _ => Or.inl trivial
    iexact HW
  isplitl [H0]; · iexact H0
  isplitl [H1]; · iexact H1
  iexact H2

theorem row (t : Fin cfg0.N) : defs₀ (F := F) .tc cfg0.body (cfg0.bodyArgs t (cfg0.slots t)) = bodyAt0 t := by
  unfold defs₀; rw [Defs.onTc_tc]

theorem obligation (c : Dev nD) : BodyObligation (dats (F := F) m 0 c) (defs₀ (F := F)) Variants.none () Set.univ := fun t => by
  rw [bigSep_W0, bigSep_W0, row]
  exact triple_restated (body_sound m c t) rfl .rfl fun _ => .rfl

/-! ## Into the region and out of it -/

/-- The operand the kernel copies by itself. -/
def own : Finset (Ref sig .tc) := {main_arg4}
theorem own_sub : own ⊆ Pipeline.restRefs sig spec0 := by decide
theorem own_pts (c : Dev nD) : (bigSep own (fun b => ((c : Thread nD τ).loc b) ↦{fullShare} V m c b) : sProp 𝕄) = weightsP c weights (V m c main_arg4) := by
  rw [BI.bigSep_eq_bigSepL_of_eq [main_arg4] (by decide) (by decide)]; rfl
/-- What the region is entered with: the scratch, the register, the cells at zero, the weights. -/
theorem entered (c : Dev nD) : (Pipeline.ΦD cells spec0 own (V m) c : sProp 𝕄)
    = iprop(iprop((∃ d, owns (c : Thread nD τ) scratch fullShare d)) ∗ (∃ r, prngReg c r) ∗ idle c ∗ weightsP c weights (V m c main_arg4)) := by
  rw [Pipeline.ΦD_eq, scopedRest0_eq, idle_eq, own_pts]; simp only [scratch, owns_whole]; rfl

theorem enter (c : Dev nD) : Pipeline.ΦD cells spec0 own (V m) c ⊢ (dats m 0 c).Φ 0 := by
  rw [entered, show (dats m 0 c).Φ 0 = between m c 0 from rfl]
  unfold between
  iintro ⟨HS, Hg, HC, HW⟩
  isplitl [Hg]; · iexact Hg
  iapply (ring_in c (V m c main_arg4))
  isplitl [HS]; · iexact HS
  isplitl [HC]; · iexact HC
  iexact HW
theorem leave (c : Dev nD) : (dats m 0 c).Φ (Fin.last cfg0.N) ⊢ Pipeline.ΦD cells spec0 own (V m) c := by
  rw [entered, show (dats m 0 c).Φ (Fin.last cfg0.N) = between m c grid0.N from rfl, show grid0.N = 25 from N_0]
  unfold between
  iintro ⟨Hg, HR⟩
  ihave H := (ring_out c (V m c main_arg4)) $$ HR
  icases H with ⟨HS, HC, HW⟩
  isplitl [HS]; · iexact HS
  isplitl [Hg]; · iexact Hg
  isplitl [HC]; · iexact HC
  iexact HW

/-! ## The run -/

-- the launch theorem's implicit arguments are found by unfolding definitions in a metavariable's type
set_option backward.isDefEq.respectTransparency.types false in
/-- Every execution of @main ends, with the arrays at what the proof data say and every semaphore at zero. -/
theorem launched : θ_run defs (onTc (τ := τ) (main (F := F))) (s₀ m ρ) (fun r => (Pipeline.FramePost cfgs (dats m) 0 (V m)) r ∧ r.2.sem = fun _ => 0) :=
  Pipeline.θ_run_frame_dma (Q' := _) cfgs (dats m) (0 : Fin 1) launch0 cells defs₀ Variants.none cells_own own own_sub m ρ main
    (hbody := fun c => (obligation m c).loose) (hshare := fun c => (dats m 0 c).share_full fun _ => rfl)
    (howed := fun _ _ => rfl) (V := V m) (hmain := reach m) (hA := arrays m)
    (hin := enter m) (hout := leave m)

/-- No argument changes: one is staged (an input's array stays), the others no window writes. -/
theorem kept {r} (h : Pipeline.FramePost cfgs (dats m) 0 (V m) r) (c : Dev nD) :
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  ⟨((h c).2 main_arg0 (Pipeline.mem_restRefs_of main_arg0 (by decide) (by decide))).trans (V_main_arg0 m c),
   ((h c).1 1).trans (((dats m 0 c).arrAt_in 1 rfl _).trans ((arrays m c 1).trans (V_main_arg1 m c))),
   ((h c).2 main_arg2 (Pipeline.mem_restRefs_of main_arg2 (by decide) (by decide))).trans (V_main_arg2 m c),
   ((h c).2 main_arg3 (Pipeline.mem_restRefs_of main_arg3 (by decide) (by decide))).trans (V_main_arg3 m c),
   ((h c).2 main_arg4 (Pipeline.mem_restRefs_of main_arg4 (by decide) (by decide))).trans (V_main_arg4 m c)⟩

/-- The frame: every execution ends, no argument changed, every semaphore at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun _ h => ⟨kept m h.1, h.2⟩) (launched m ρ)

end Cert.KernelIdeal.Stream

end
-- ==== Proof.Value.lean ====
/- The kernel's result: under the range of the indices it is `Routed.logits`. -/
module

public import proofs.«01_k».proof.Proof.Logits
public import proofs.«01_k».proof.Proof.Region
public import Idealize.ShloMosaic.Lib.MatmulPlain
public import Idealize.ShloMosaic.Lib.StableHlo.Predicate
public import Idealize.ShloMosaic.Lib.Pipeline.Value
public import Idealize.ShloMosaic.Lib.ValueLayout
public import Idealize.ShloMosaic.Lib.ValueLayoutCasts

@[expose] public section

set_option maxRecDepth 16384

noncomputable section

namespace Cert.KernelIdeal.Stream

open Cert.KernelIdeal Cert.KernelIdeal.Gen Cert.Routed
open Idealize.ShloMosaic Idealize.ShloMosaic.TcCoe Idealize.ShloMosaic.ValueIdx Idealize.SL.Sem
open Idealize.ShloMosaic.Pipeline (Dat)
open scoped BigOperators

/-! ## The stored tile, entry by entry -/

/-- The word 1 where the two words agree, else 0, as an extended real. -/
abbrev agree (x e : BitVec 32) : EReal := (((IntOp.cmpi .eq x e).zeroExtend 32).toInt : ℝ)

theorem agree_self (x : BitVec 32) : agree x x = 1 := by
  unfold agree
  rw [show IntOp.cmpi .eq x x = 1#1 from by simp [IntOp.cmpi]]
  simp
theorem agree_ne {x e : BitVec 32} (h : x ≠ e) : agree x e = 0 := by
  unfold agree
  rw [show IntOp.cmpi .eq x e = 0#1 from eq_zero_of_ne_one fun e1 => h (StableHlo.Predicate.cmpi_eq_iff.1 e1)]
  simp

theorem routedTo_apply (e : BitVec 32) (x0 : Vec Ideal S64x1 .i32) (x1 : Vec Ideal S64x1024 .f32) (b : Fin 64) (k : Fin 1024) :
    routedTo (F := Ideal) e x0 x1 (ix2 b k) = (x1 (ix2 b k) : EReal) * agree (x0 (ix2 b 0)) e := by
  show (x1 (ix2 b k) : EReal) * (broadcastTo S64x1024 _ broadcasts_S64x1_S64x1024 (ix2 b k) : EReal) = _
  rw [broadcastTo_apply _ broadcasts_S64x1_S64x1024 (ix2 b k) (ix2 b 0) (fun a => match a with | ⟨0, _⟩ => rfl | ⟨1, _⟩ => rfl)]
  unfold k0_pay2
  rw [shapeCast_self]
  rfl

/-- One matrix's share of the tile. -/
theorem share_apply (e : BitVec 32) (x0 : Vec Ideal S64x1 .i32) (x1 : Vec Ideal S64x1024 .f32) (D : Vec Ideal S1280x1024 .f32) (b : Fin 64) (j : Fin 1280) :
    matmul (F := Ideal) (φ₁ := .f32) (φ₂ := .f32) dot_S64x1024_S1280x1024_S64x1280_1_1_0_0_n_n none (routedTo e x0 x1) D (constant S64x1280 .f32 0x00000000#32) (ix2 b j)
      = ∑ k : Fin 1024, (x1 (ix2 b k) : EReal) * agree (x0 (ix2 b 0)) e * D (ix2 j k) := by
  refine (Ideal.matmul_transposedRhs_apply none (routedTo e x0 x1) D (constant S64x1280 .f32 0x00000000#32) b j).trans ?_
  show Ideal.ofBits .f32 0x00000000#32 + _ = _
  rw [Ideal.ofBits_zero_f32, zero_add]
  exact Finset.sum_congr rfl fun k _ => by rw [routedTo_apply]

theorem share_self (x0 : Vec Ideal S64x1 .i32) (x1 : Vec Ideal S64x1024 .f32) (D : Vec Ideal S1280x1024 .f32) (b : Fin 64) (j : Fin 1280) {e : BitVec 32} (h : x0 (ix2 b 0) = e) :
    ∑ k : Fin 1024, (x1 (ix2 b k) : EReal) * agree (x0 (ix2 b 0)) e * D (ix2 j k) = ∑ k : Fin 1024, (x1 (ix2 b k) : EReal) * D (ix2 j k) := by
  rw [h, agree_self]; simp only [mul_one]
theorem share_ne (x0 : Vec Ideal S64x1 .i32) (x1 : Vec Ideal S64x1024 .f32) (D : Vec Ideal S1280x1024 .f32) (b : Fin 64) (j : Fin 1280) {e : BitVec 32} (h : x0 (ix2 b 0) ≠ e) :
    ∑ k : Fin 1024, (x1 (ix2 b k) : EReal) * agree (x0 (ix2 b 0)) e * D (ix2 j k) = 0 := by
  rw [agree_ne h]; simp only [mul_zero, zero_mul, Finset.sum_const_zero]

/-- A row routed to matrix 0 or 1 gets that matrix's product alone. -/
theorem outTile_zero (x0 : Vec Ideal S64x1 .i32) (x1 : Vec Ideal S64x1024 .f32) (D0 D1 : Vec Ideal S1280x1024 .f32) (b : Fin 64) (j : Fin 1280) (h : x0 (ix2 b 0) = 0#32) :
    outTile (F := Ideal) x0 x1 D0 D1 (ix2 b j) = ∑ k : Fin 1024, (x1 (ix2 b k) : EReal) * D0 (ix2 j k) := by
  show (matmul (F := Ideal) _ _ _ _ _ (ix2 b j) : EReal) + matmul (F := Ideal) _ _ _ _ _ (ix2 b j) = _
  rw [share_apply, share_apply, share_self _ _ _ _ _ h, share_ne _ _ _ _ _ (by rw [h]; decide), add_zero]
theorem outTile_one (x0 : Vec Ideal S64x1 .i32) (x1 : Vec Ideal S64x1024 .f32) (D0 D1 : Vec Ideal S1280x1024 .f32) (b : Fin 64) (j : Fin 1280) (h : x0 (ix2 b 0) = 1#32) :
    outTile (F := Ideal) x0 x1 D0 D1 (ix2 b j) = ∑ k : Fin 1024, (x1 (ix2 b k) : EReal) * D1 (ix2 j k) := by
  show (matmul (F := Ideal) _ _ _ _ _ (ix2 b j) : EReal) + matmul (F := Ideal) _ _ _ _ _ (ix2 b j) = _
  rw [share_apply, share_apply, share_ne _ _ _ _ _ (by rw [h]; decide), share_self _ _ _ _ _ h, zero_add]

/-! ## The operands of a point -/

/-- Row `j` of block `b` is row `1280 b + j` of the matrix. -/
theorem weightsOf_apply {F : FTy → Type} {c : Dev nD} (W : Cont (F := F) c weights) (w : Fin 2) (b : Fin 25) (j : Fin 1280) (k : Fin 1024) :
    weightsOf (F := F) W w b (ix2 j k) = W (ix3 w ⟨1280 * b.val + j.val, by omega⟩ k) := by
  unfold weightsOf block
  rw [Memref.read_squeeze_slice _ _ _ _ (show S1x1280x1024.ShapeCasts S1280x1024 from rfl)]
  refine (shapeCast_1ab_ab_apply _ _ j k).trans ?_
  refine congrArg W (funext fun a => Fin.ext ?_)
  match a with
  | ⟨0, _⟩ => show w.val + 1 * 0 = w.val; omega
  | ⟨1, _⟩ => show 1280 * b.val + 1 * j.val = 1280 * b.val + j.val; omega
  | ⟨2, _⟩ => show 0 + 1 * k.val = k.val; omega

variable (m : (ℓ : Loc nD τ sig) → Buf (Elt Ideal) ℓ) (ρ : Dev nD → PrngReg)

/-- The index column the region finds is the argument's, reshaped. -/
theorem column (c : Dev nD) : V m c main_v0 = shapeCast S64x1 (m ((c : Thread nD τ).loc main_arg3)) shapeCasts_S64_S64x1 := by
  show StableHlo.after hostOps0 (fun b => m (c, b)) (Proc.devRef .tc main_v0) = _
  simp only [hostOps0]
  after_results_simp <;> rfl

theorem whole0 (t : Fin cfg0.N) : cc0_transform_0 (grid0.coords t) = ![0, 0] := rfl
theorem whole1 (t : Fin cfg0.N) : cc0_transform_1 (grid0.coords t) = ![0, 0] := rfl

/-- The staged indices are the argument's, as a column, -/
theorem column_apply (c : Dev nD) (t : Fin cfg0.N) (b : Fin 64) :
    iblk m c 0 t (ix2 b 0) = m ((c : Thread nD τ).loc main_arg3) (ix1 b) := by
  have e : iblk m c 0 t (ix2 b 0) = V m c main_v0 (ix2 b 0) := by
    refine congrArg (V m c main_v0) (funext fun a => Fin.ext ?_)
    match a with
    | ⟨0, _⟩ => show 0 * 64 + 1 * b.val = b.val; omega
    | ⟨1, _⟩ => rfl
  rw [e, column]
  exact shapeCast_a_a1_apply _ _ b 0
/-- and the staged activations are the argument's. -/
theorem activations_apply (c : Dev nD) (t : Fin cfg0.N) (b : Fin 64) (k : Fin 1024) :
    iblk m c 1 t (ix2 b k) = m ((c : Thread nD τ).loc main_arg1) (ix2 b k) := by
  have e : iblk m c 1 t (ix2 b k) = V m c main_arg1 (ix2 b k) := by
    refine congrArg (V m c main_arg1) (funext fun a => Fin.ext ?_)
    match a with
    | ⟨0, _⟩ => show 0 * 64 + 1 * b.val = b.val; omega
    | ⟨1, _⟩ => show 0 * 1024 + 1 * k.val = k.val; omega
  rw [e, V_main_arg1]

/-! ## The result -/

/-- The logits of device `c`'s arguments. -/
abbrev want (c : Dev nD) : Logits :=
  logits (m ((c : Thread nD τ).loc main_arg1)) (m ((c : Thread nD τ).loc main_arg3)) (m ((c : Thread nD τ).loc main_arg4))

/-- Point `t`'s block of the result is the columns from `1280 t`. -/
theorem columns : ∀ t : Fin cfg0.N, cc0_transform_3 (grid0.coords t) = ![0, t.val] :=
  (by decide +kernel : ∀ t : Fin grid0.N, cc0_transform_3 (grid0.coords t) = ![0, t.val])
theorem points (t : Fin cfg0.N) : t.val < 25 := lt_of_lt_of_eq t.isLt N_0
theorem col_lt (t : Fin cfg0.N) (j : Fin 1280) : 1280 * t.val + j.val < 32000 := by
  have := points t; omega

theorem block_apply (G : Logits) (t : Fin cfg0.N) (b : Fin 64) (j : Fin 1280) :
    ((cfg0.win 2).blk t).view.read (Elt Ideal) G (ix2 b j) = G (ix2 b ⟨1280 * t.val + j.val, col_lt t j⟩) := by
  refine congrArg G (funext fun a => Fin.ext ?_)
  have e0 : cc0_transform_3 (grid0.coords t) 0 = 0 := by rw [columns]; rfl
  have e1 : cc0_transform_3 (grid0.coords t) 1 = t.val := by rw [columns]; rfl
  match a with
  | ⟨0, _⟩ => show cc0_transform_3 (grid0.coords t) 0 * 64 + 1 * b.val = b.val; rw [e0]; omega
  | ⟨1, _⟩ => show cc0_transform_3 (grid0.coords t) 1 * 1280 + 1 * j.val = 1280 * t.val + j.val; rw [e1]; omega

theorem bk_eq (t : Fin cfg0.N) : (Ring.bk 25 t.val).val = t.val := Nat.mod_eq_of_lt (points t)

/-- The tile point `t` stores is its block of the logits. -/
theorem tileAt_apply {c : Dev nD} (hX : InRange (m ((c : Thread nD τ).loc main_arg3))) (t : Fin cfg0.N) (b : Fin 64) (j : Fin 1280) :
    tileAt m c t (ix2 b j) = want m c (ix2 b ⟨1280 * t.val + j.val, col_lt t j⟩) := by
  let x1 : Vec Ideal S64x1024 .f32 := iblk m c 1 t
  let h : Hidden := m ((c : Thread nD τ).loc main_arg1)
  let D : Weights := m ((c : Thread nD τ).loc main_arg4)
  have row : ∀ w : Fin 2, ∑ k : Fin 1024, (x1 (ix2 b k) : EReal) * weightsOf (F := Ideal) (V m c main_arg4) w (Ring.bk 25 t.val) (ix2 j k)
      = ∑ k : Fin 1024, h (ix2 b k) * D (ix3 w ⟨1280 * t.val + j.val, col_lt t j⟩ k) := by
    intro w
    refine Finset.sum_congr rfl fun k _ => ?_
    rw [show x1 (ix2 b k) = h (ix2 b k) from activations_apply m c t b k, weightsOf_apply, V_main_arg4]
    simp only [bk_eq]
    rfl
  unfold tileAt
  show _ = logit _ _ _ b ⟨1280 * t.val + j.val, col_lt t j⟩
  unfold logit
  rcases hX b with hb | hb
  · rw [slot_zero hb]
    exact (outTile_zero _ _ _ _ b j ((column_apply m c t b).trans hb)).trans (row 0)
  · rw [slot_one hb]
    exact (outTile_one _ _ _ _ b j ((column_apply m c t b).trans hb)).trans (row 1)

/-- So what point `t` writes back is its block of the logits, -/
theorem written {c : Dev nD} (hX : InRange (m ((c : Thread nD τ).loc main_arg3))) (t : Fin cfg0.N) :
    (dats m 0 c).flushed 2 t = ((cfg0.win 2).blk t).view.read (Elt Ideal) (want m c) := by
  show (cfg0.win 2).cut (grid0.coords t) ((dats m 0 c).after 2 t) = _
  rw [left2]
  funext i
  obtain ⟨b, j, rfl⟩ : ∃ (b : Fin 64) (j : Fin 1280), i = ix2 b j := ⟨_, _, eq_ix2 i⟩
  rw [block_apply]
  exact tileAt_apply m hX t b j

/-- the blocks cover the result, -/
theorem covered (i : S64x32000.Idx) : ∃ t : Fin cfg0.N, (cfg0.win 2).flush t = true ∧ i ∈ ((cfg0.win 2).blk t).view.set := by
  have h1 : (i 1 : Nat) < 32000 := (i 1).isLt
  have hN : cfg0.N = 25 := N_0
  let t : Fin cfg0.N := ⟨(i 1 : Nat) / 1280, by omega⟩
  refine ⟨t, flush0_2 t, ?_⟩
  show i ∈ ((View.whole main_v1).slice (win0_2.rect t)).set
  rw [View.set_slice_whole, Rect.mem_set_unit]
  have e0 : cc0_transform_3 (grid0.coords t) 0 = 0 := by rw [columns]; rfl
  have e1 : cc0_transform_3 (grid0.coords t) 1 = t.val := by rw [columns]; rfl
  have h0 : (i 0 : Nat) < 64 := (i 0).isLt
  intro a
  match a with
  | ⟨0, _⟩ => show cc0_transform_3 (grid0.coords t) 0 * 64 ≤ (i 0 : Nat) ∧ (i 0 : Nat) < cc0_transform_3 (grid0.coords t) 0 * 64 + 64; rw [e0]; omega
  | ⟨1, _⟩ => show cc0_transform_3 (grid0.coords t) 1 * 1280 ≤ (i 1 : Nat) ∧ (i 1 : Nat) < cc0_transform_3 (grid0.coords t) 1 * 1280 + 1280; rw [e1]; show (i 1 : Nat) / 1280 * 1280 ≤ (i 1 : Nat) ∧ (i 1 : Nat) < (i 1 : Nat) / 1280 * 1280 + 1280; omega

/-- and the result ends as the logits. -/
theorem final {c : Dev nD} (hX : InRange (m ((c : Thread nD τ).loc main_arg3))) : (dats m 0 c).arrAt 2 cfg0.N = want m c :=
  (dats m 0 c).arrAt_eq_of_cover 2 (want m c) (fun t _ => written m hX t) covered

/-- The run: the result is the logits, where every device's indices are in range. -/
theorem run (hX : ∀ c : Dev nD, InRange (m ((c.tc : Thread nD τ).loc main_arg3))) :
    θ_run defs (onTc (τ := τ) (main (F := Ideal))) ⟨m, fun _ => 0, ρ⟩ fun r => ∀ c : Dev nD,
      r.2.mem ((c.tc : Thread nD τ).loc main_v1) = want m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c => ⟨((h.1 c).1 2).trans (final m (hX c)), kept m h.1 c⟩) (launched m ρ)

end Cert.KernelIdeal.Stream

end
-- ==== Proof.Reference.lean ====
/- The reference: its run leaves the semaphores at zero, and under the range of the indices its result is `Routed.logits`. -/
module

public import proofs.«01_k».proof.Proof.Logits
public import proofs.«01_k».proof.Proof.Gen.ReferenceIdeal.Run
public import Idealize.ShloMosaic.Lib.MatmulPlain
public import Idealize.ShloMosaic.Lib.Pipeline.Value
public import Idealize.ShloMosaic.Lib.Quiescent

@[expose] public section

set_option maxRecDepth 16384

noncomputable section

namespace Cert.ReferenceIdeal.Logits

open Cert.ReferenceIdeal Cert.ReferenceIdeal.Gen Cert.Routed
open Idealize.ShloMosaic Idealize.ShloMosaic.TcCoe Idealize.ShloMosaic.ValueIdx Idealize.SL.Sem
open scoped BigOperators

/-! ## The product with both matrices, and the row each token takes from it -/

/-- Both matrices' products, read at token `b`, matrix `e`, vocabulary entry `v`. -/
theorem both_apply (h : Hidden) (D : Weights) (b : Fin 64) (e : Fin 2) (v : Fin 32000) :
    Host.dotGeneral (F := Ideal) (φ₁ := .f32) (φ₂ := .f32) dot_S64x1024_S2x32000x1024_S64x2x32000_1_2_0_01_n_n none h D (ix3 b e v)
      = ∑ k : Fin 1024, h (ix2 b k) * D (ix3 e v k) := by
  let d := dot_S64x1024_S2x32000x1024_S64x2x32000_1_2_0_01_n_n
  have hr : d.contr.rank = 1 := rfl
  have hs : d.contr.size ⟨0, by rw [hr]; exact Nat.one_pos⟩ = 1024 := rfl
  simp only [Host.dotGeneral]
  rw [Ideal.dotGeneral_apply, ← Equiv.sum_comp (contrEquiv1 d 1024 hr hs).symm]
  refine Finset.sum_congr rfl fun k _ => ?_
  have hk := contrEquiv1_symm_val d 1024 hr hs k
  have el : d.lhsIdx (ix3 b e v) ((contrEquiv1 d 1024 hr hs).symm k) = ix2 b k := by
    funext a; apply Fin.ext
    match a with
    | ⟨0, _⟩ => rfl
    | ⟨1, _⟩ => exact hk
  have er : d.rhsIdx (ix3 b e v) ((contrEquiv1 d 1024 hr hs).symm k) = ix3 e v k := by
    funext a; apply Fin.ext
    match a with
    | ⟨0, _⟩ => rfl
    | ⟨1, _⟩ => rfl
    | ⟨2, _⟩ => exact hk
  rw [el, er]

/-- Taking along the matrix axis, read at token `b` and vocabulary entry `v`: the start index clamped to 0 or 1. -/
theorem take_apply {α : Type} (x : S64x2x32000.Idx → α) (s : IVec S64x1x1 32) (b : Fin 64) (v : Fin 32000) :
    Host.gather gather_S64x2x32000_S64x1x1_S64x1x32000_2_1_0_0_1_2_1132000 x s (ix3 b 0 v)
      = x (ix3 b ⟨min (s (ix3 b 0 0)).toInt.toNat 1, by omega⟩ v) := by
  let d := gather_S64x2x32000_S64x1x1_S64x1x32000_2_1_0_0_1_2_1132000
  unfold Host.gather
  congr 1
  funext a
  refine Fin.ext ?_
  show d.start (ix3 b 0 v) s a + d.batchCoord (ix3 b 0 v) a + d.offCoord (ix3 b 0 v) a = _
  have ha : a = 0 ∨ a = 1 ∨ a = 2 := match a with
    | ⟨0, _⟩ => .inl rfl
    | ⟨1, _⟩ => .inr (.inl rfl)
    | ⟨2, _⟩ => .inr (.inr rfl)
  rcases ha with rfl | rfl | rfl
  · rw [d.start_batching _ _ _ (List.mem_singleton.mpr rfl),
      d.offCoord_eq_zero _ _ (fun h => ((d.mem_sKept _).mp h).2 (List.mem_singleton.mpr rfl))]
    unfold GatherDims.batchCoord
    rw [dif_pos (show (0 : Fin 3) ∈ d.operandBatchingDims from List.mem_singleton.mpr rfl)]
    simp only [Nat.zero_add, Nat.add_zero]
    rfl
  · rw [d.batchCoord_eq_zero _ _ (fun h => absurd (List.mem_singleton.mp h) (by decide)),
      d.offCoord_eq_zero _ _ (fun h => ((d.mem_sKept _).mp h).1 (List.mem_singleton.mpr rfl))]
    unfold GatherDims.start
    rw [dif_pos (show (1 : Fin 3) ∈ d.startIndexMap from List.mem_singleton.mpr rfl)]
    have e : d.siIdx (ix3 b 0 v) ⟨List.idxOf (1 : Fin 3) d.startIndexMap,
        List.idxOf_lt_length_iff.2 (List.mem_singleton.mpr rfl)⟩ = ix3 b 0 0 := by
      funext c; refine Fin.ext ?_
      match c with
      | ⟨0, _⟩ => rfl
      | ⟨1, _⟩ => rfl
      | ⟨2, _⟩ => rfl
    rw [Nat.add_zero, e]
    rfl
  · rw [d.batchCoord_eq_zero _ _ (fun h => absurd (List.mem_singleton.mp h) (by decide))]
    unfold GatherDims.start
    rw [dif_neg (show (2 : Fin 3) ∉ d.startIndexMap from fun h => absurd (List.mem_singleton.mp h) (by decide))]
    unfold GatherDims.offCoord
    rw [dif_pos (show (2 : Fin 3) ∈ d.sKept from (d.mem_sKept _).mpr ⟨fun h => absurd (List.mem_singleton.mp h) (by decide), fun h => absurd (List.mem_singleton.mp h) (by decide)⟩)]
    simp only [Nat.zero_add]
    rfl

/-! ## The start indices -/

/-- An index below zero is taken as zero, -/
abbrev clipped (X : Indices) : IVec S64x1x1 32 :=
  broadcastInDim S64x1x1 ![0] bcast_S64_S64x1x1_0 (maxsi (broadcastInDim S64 ![] bcast_S_S64 (id (constantI S_ 32 0#32))) X)
/-- and one counted from the end from the front. -/
abbrev starts (X : Indices) : IVec S64x1x1 32 :=
  select (cmpi .slt (clipped X) (broadcastInDim S64x1x1 ![] bcast_S_S64x1x1 (constantI S_ 32 0#32)))
    (addi (clipped X) (broadcastInDim S64x1x1 ![] bcast_S_S64x1x1 (constantI S_ 32 2#32))) (clipped X)

theorem clipped_apply (X : Indices) (b : Fin 64) : clipped X (ix3 b 0 0) = IntOp.maxsi 0#32 (X (ix1 b)) := by
  show IntOp.maxsi 0#32 (X _) = _
  congr 1
  exact congrArg X (funext fun a => match a with | ⟨0, _⟩ => rfl)

/-- In range neither changes the index. -/
theorem starts_apply {X : Indices} (hX : InRange X) (b : Fin 64) : starts X (ix3 b 0 0) = X (ix1 b) := by
  show Scalar.select (IntOp.cmpi .slt (clipped X (ix3 b 0 0)) 0#32) (IntOp.addi (clipped X (ix3 b 0 0)) 2#32) (clipped X (ix3 b 0 0)) = _
  rw [clipped_apply]
  rcases hX b with e | e <;> rw [e] <;> decide

/-- Whether each start index is a matrix. -/
abbrev inside (X : Indices) : IVec S64x1x1 1 :=
  andi (cmpi .sge (starts X) (broadcastInDim S64x1x1 ![] bcast_S_S64x1x1 (constantI S_ 32 0#32)))
    (cmpi .sle (starts X) (broadcastInDim S64x1x1 ![0, 1, 2] bcast_S1x1x1_S64x1x1_0_1_2 (broadcastInDim S1x1x1 ![2] bcast_S1_S1x1x1_2 (constantI S1 32 1#32))))

theorem inside_apply {X : Indices} (hX : InRange X) (i : S64x1x1.Idx) : inside X i = 1#1 := by
  obtain ⟨b, p, q, rfl⟩ : ∃ b p q, i = ix3 b p q := ⟨_, _, _, eq_ix3 i⟩
  obtain rfl : p = 0 := Subsingleton.elim _ _
  obtain rfl : q = 0 := Subsingleton.elim _ _
  show IntOp.andi (IntOp.cmpi .sge (starts X (ix3 b 0 0)) 0#32) (IntOp.cmpi .sle (starts X (ix3 b 0 0)) 1#32) = 1#1
  rw [starts_apply hX]
  rcases hX b with e | e <;> rw [e] <;> decide

/-! ## The result -/

/-- The rows taken from both matrices' products, with a fill value where the start index is no matrix. -/
abbrev taken (h : Hidden) (X : Indices) (D : Weights) : FVec Ideal S64x1x32000 .f32 :=
  select (broadcastInDim S64x1x32000 ![0, 1] bcast_S64x1_S64x1x32000_0_1 (Host.reduce IntOp.andi (inside X) (constantI S_ 1 1#1) reducesTo_S64x1x1_S64x1_d2 h_S_))
    (Host.gather gather_S64x2x32000_S64x1x1_S64x1x32000_2_1_0_0_1_2_1132000 (Host.dotGeneral dot_S64x1024_S2x32000x1024_S64x2x32000_1_2_0_01_n_n none h D) (starts X))
    (broadcastInDim S64x1x32000 ![] bcast_S_S64x1x32000 (constant S_ .f32 0x7FC00000#32))

theorem taken_apply (h : Hidden) {X : Indices} (hX : InRange X) (D : Weights) (b : Fin 64) (v : Fin 32000) :
    taken h X D (ix3 b 0 v) = logit h X D b v := by
  have e : (broadcastInDim S64x1x32000 ![0, 1] bcast_S64x1_S64x1x32000_0_1 (Host.reduce IntOp.andi (inside X) (constantI S_ 1 1#1) reducesTo_S64x1x1_S64x1_d2 h_S_)) (ix3 b 0 v) = 1#1 :=
    Host.reduce_andi_one _ _ _ _ _ rfl (inside_apply hX)
  show Scalar.select _ _ _ = _
  rw [e, select_one, take_apply, both_apply]
  unfold logit
  have es : (⟨min (starts X (ix3 b 0 0)).toInt.toNat 1, by omega⟩ : Fin 2) = slot X b := by
    apply Fin.ext
    show min (starts X (ix3 b 0 0)).toInt.toNat 1 = _
    rw [starts_apply hX]
    rcases hX b with e | e
    · rw [slot_zero e, e]; rfl
    · rw [slot_one e, e]; rfl
  rw [es]

/-- The reference's result: the product with the base weights where the index is −1, else what was taken. -/
abbrev result (h : Hidden) (W : FVec Ideal S1024x32000 .f32) (X : Indices) (D : Weights) : Logits :=
  select (broadcastInDim S64x32000 ![0, 1] bcast_S64x1_S64x32000_0_1 (broadcastInDim S64x1 ![0] bcast_S64_S64x1_0 (cmpi .eq X (broadcastInDim S64 ![] bcast_S_S64 (constantI S_ 32 4294967295#32)))))
    (Host.dotGeneral dot_S64x1024_S1024x32000_S64x32000_1_0_0_1_n_n none h W)
    (shapeCast S64x32000 (taken h X D) shapeCasts_S64x1x32000_S64x32000)

theorem result_eq (h : Hidden) (W : FVec Ideal S1024x32000 .f32) {X : Indices} (hX : InRange X) (D : Weights) :
    result h W X D = logits h X D := by
  funext i
  obtain ⟨b, v, rfl⟩ : ∃ b v, i = ix2 b v := ⟨_, _, eq_ix2 i⟩
  have e : (broadcastInDim S64x32000 ![0, 1] bcast_S64x1_S64x32000_0_1 (broadcastInDim S64x1 ![0] bcast_S64_S64x1_0 (cmpi .eq X (broadcastInDim S64 ![] bcast_S_S64 (constantI S_ 32 4294967295#32))))) (ix2 b v)
      = IntOp.cmpi .eq (X (ix1 b)) 4294967295#32 := by
    show IntOp.cmpi .eq (X _) 4294967295#32 = _
    exact congrArg (fun j => IntOp.cmpi .eq (X j) 4294967295#32) (funext fun a => match a with | ⟨0, _⟩ => rfl)
  have e0 : IntOp.cmpi .eq (X (ix1 b)) 4294967295#32 = 0#1 := by
    rcases hX b with e | e <;> rw [e] <;> decide
  show Scalar.select _ _ (shapeCast S64x32000 (taken h X D) shapeCasts_S64x1x32000_S64x32000 (ix2 b v)) = _
  rw [e, e0, select_zero]
  refine (shapeCast_apply _ _ _ (ix3 b 0 v) ?_).trans (taken_apply h hX D b v)
  rw [Shape.rowMajor_val_three, Shape.rowMajor_val_two]
  show (b.val * 1 + 0) * 32000 + v.val = b.val * 32000 + v.val
  omega

/-! ## The run -/

variable (m : (ℓ : Loc nD τ sig) → Buf (Elt Ideal) ℓ) (ρ : Dev nD → PrngReg)

/-- The frame: every execution ends, no argument changed, every semaphore at zero (the program has none). -/
theorem frame {F : FTy → Type} [FloatOps F] (m : (ℓ : Loc nD τ sig) → Buf (Elt F) ℓ) (ρ : Dev nD → PrngReg) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun r h => ⟨fun c => (h c).2, sem_eq_zero_of_no_sems rfl r.2⟩) (Value.run m ρ)

/-- The run: the result is the logits, where every device's indices are in range. -/
theorem run (hX : ∀ c : Dev nD, InRange (m ((c.tc : Thread nD τ).loc main_arg3))) :
    θ_run defs (onTc (τ := τ) (main (F := Ideal))) ⟨m, fun _ => 0, ρ⟩ fun r => ∀ c : Dev nD,
      r.2.mem ((c.tc : Thread nD τ).loc main_v9)
        = logits (m ((c.tc : Thread nD τ).loc main_arg1)) (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c => ⟨(h c).1.trans (result_eq _ _ (hX c) _), (h c).2⟩) (Value.run m ρ)

end Cert.ReferenceIdeal.Logits

end
-- ==== Proof.lean ====
module

public import proofs.«01_k».proof.Defs
public import proofs.«01_k».proof.Proof.Gen.Kernel.Frame
public import proofs.«01_k».proof.Proof.Gen.ReferenceIdeal.Run
public import proofs.«01_k».proof.Proof.Value
public import proofs.«01_k».proof.Proof.Reference

@[expose] public section

set_option maxRecDepth 16384

noncomputable section

namespace Cert.Proof

open Idealize.ShloMosaic Idealize.ShloMosaic.TcCoe Idealize.ShloMosaic.Tactic Idealize.SL.Sem

set_option maxHeartbeats 4000000 in
/-- The frame of the idealization's text at the machine's floats is the frame of the kernel's. -/
theorem same :
    (∀ (m : (ℓ : Loc Cert.KernelIdeal.nD Cert.KernelIdeal.τ Cert.KernelIdeal.sig) → Buf (Elt Bits) ℓ) (g : Dev Cert.KernelIdeal.nD → PrngReg),
      θ_run (Cert.KernelIdeal.defs (F := Bits)) (onTc (τ := Cert.KernelIdeal.τ) (Cert.KernelIdeal.main (F := Bits))) ⟨m, fun _ => 0, g⟩ (fun r => (∀ c : Dev Cert.KernelIdeal.nD,
        r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
        ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
        ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
        ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
        ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
        ∧ r.2.sem = fun _ => 0))
    = (∀ (m : (ℓ : Loc Cert.Kernel.nD Cert.Kernel.τ Cert.Kernel.sig) → Buf (Elt Bits) ℓ) (g : Dev Cert.Kernel.nD → PrngReg),
      θ_run (Cert.Kernel.defs (F := Bits)) (onTc (τ := Cert.Kernel.τ) (Cert.Kernel.main (F := Bits))) ⟨m, fun _ => 0, g⟩ (fun r => (∀ c : Dev Cert.Kernel.nD,
        r.2.mem ((c.tc : Thread Cert.Kernel.nD Cert.Kernel.τ).loc Cert.Kernel.main_arg0) = m ((c.tc : Thread Cert.Kernel.nD Cert.Kernel.τ).loc Cert.Kernel.main_arg0)
        ∧ r.2.mem ((c.tc : Thread Cert.Kernel.nD Cert.Kernel.τ).loc Cert.Kernel.main_arg1) = m ((c.tc : Thread Cert.Kernel.nD Cert.Kernel.τ).loc Cert.Kernel.main_arg1)
        ∧ r.2.mem ((c.tc : Thread Cert.Kernel.nD Cert.Kernel.τ).loc Cert.Kernel.main_arg2) = m ((c.tc : Thread Cert.Kernel.nD Cert.Kernel.τ).loc Cert.Kernel.main_arg2)
        ∧ r.2.mem ((c.tc : Thread Cert.Kernel.nD Cert.Kernel.τ).loc Cert.Kernel.main_arg3) = m ((c.tc : Thread Cert.Kernel.nD Cert.Kernel.τ).loc Cert.Kernel.main_arg3)
        ∧ r.2.mem ((c.tc : Thread Cert.Kernel.nD Cert.Kernel.τ).loc Cert.Kernel.main_arg4) = m ((c.tc : Thread Cert.Kernel.nD Cert.Kernel.τ).loc Cert.Kernel.main_arg4))
        ∧ r.2.sem = fun _ => 0)) := by sl_kernel_rfl

theorem frame_kernel : Cert.quiescent_Kernel :=
  fun m g _ => Eq.mp same (fun m g => Cert.KernelIdeal.Stream.frame (F := Bits) m g) m g

/-- Over the extended reals both programs end with the logits of the shared arguments. -/
theorem algebraic : Cert.algebraic_KernelIdeal_ReferenceIdeal_pre_routed := by
  intro m g m' g' hpre hag
  have hX : ∀ c : Dev Cert.KernelIdeal.nD, Routed.InRange (m ((c.tc : Thread Cert.KernelIdeal.nD Cert.KernelIdeal.τ).loc Cert.KernelIdeal.main_arg3)) :=
    fun c => Routed.inRange (hpre c)
  refine ⟨fun c => Cert.KernelIdeal.Stream.want m c, Cert.KernelIdeal.Stream.run m g hX, ?_⟩
  refine (θ_run _ _ _).mono (fun r h c => ⟨(h c).1.trans ?_, (h c).2⟩)
    (Cert.ReferenceIdeal.Logits.run m' g' (fun c => by rw [(hag c).2.2.2.1]; exact hX c))
  rw [(hag c).2.1, (hag c).2.2.2.1, (hag c).2.2.2.2]

theorem claim : Cert.Claim :=
  ⟨Cert.Kernel.Gen.facts, Cert.KernelIdeal.Gen.facts, Cert.ReferenceIdeal.Gen.facts, Cert.Pre_routed.Gen.facts,
    frame_kernel,
    fun m g _ => Cert.KernelIdeal.Stream.frame m g,
    fun m g _ => Cert.KernelIdeal.Stream.frame m g,
    fun m g _ => Cert.ReferenceIdeal.Logits.frame m g,
    fun m g _ => Cert.ReferenceIdeal.Logits.frame m g,
    trivial,
    algebraic⟩

end Cert.Proof

end
